-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68_0) = v0 c
          ∧ r.2.mem ((c.tc : Thread Cert.ReferenceIdeal.nD Cert.ReferenceIdeal.τ).loc Cert.ReferenceIdeal.main_v68_1) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x1536 : Shape := ⟨3, ![3, 512, 1536]⟩
abbrev S8960x768 : Shape := ⟨2, ![8960, 768]⟩
abbrev S8960x48 : Shape := ⟨2, ![8960, 48]⟩
abbrev S8960 : Shape := ⟨1, ![8960]⟩
abbrev S1536x1536 : Shape := ⟨2, ![1536, 1536]⟩
abbrev S1x8960 : Shape := ⟨2, ![1, 8960]⟩
abbrev S1536x8960 : Shape := ⟨2, ![1536, 8960]⟩
abbrev S1536x1 : Shape := ⟨2, ![1536, 1]⟩
abbrev S1280x768 : Shape := ⟨2, ![1280, 768]⟩
abbrev S1280x48 : Shape := ⟨2, ![1280, 48]⟩
abbrev S1x1280 : Shape := ⟨2, ![1, 1280]⟩
abbrev S1536x1280 : Shape := ⟨2, ![1536, 1280]⟩
abbrev S1536x128 : Shape := ⟨2, ![1536, 128]⟩
abbrev S256x1536 : Shape := ⟨2, ![256, 1536]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S256x128x1 : Shape := ⟨3, ![256, 128, 1]⟩
abbrev S64x48 : Shape := ⟨2, ![64, 48]⟩
abbrev S256x768 : Shape := ⟨2, ![256, 768]⟩
abbrev S64x768 : Shape := ⟨2, ![64, 768]⟩
abbrev S64x128 : Shape := ⟨2, ![64, 128]⟩
abbrev S64x32 : Shape := ⟨2, ![64, 32]⟩
abbrev S64x16 : Shape := ⟨2, ![64, 16]⟩
abbrev S64x128x1 : Shape := ⟨3, ![64, 128, 1]⟩
abbrev S64x1536 : Shape := ⟨2, ![64, 1536]⟩
abbrev S1536x256 : Shape := ⟨2, ![1536, 256]⟩
abbrev S1x128 : Shape := ⟨2, ![1, 128]⟩

abbrev nBuf : Space → Nat
  | .hbm => 9
  | .vmem => 13
  | .smem => 0
  | _ => 0

abbrev bufTy : (tb : Table) → Fin (tcTables nBuf tb) → BufTy
  | .hbm, ⟨0, _⟩ => ⟨S3x512x1536, .bf16⟩
  | .hbm, ⟨1, _⟩ => ⟨S8960x768, .i8⟩
  | .hbm, ⟨2, _⟩ => ⟨S8960x48, .i32⟩
  | .hbm, ⟨3, _⟩ => ⟨S8960, .f32⟩
  | .hbm, ⟨4, _⟩ => ⟨S1536x1536, .bf16⟩
  | .hbm, ⟨5, _⟩ => ⟨S1x8960, .f32⟩
  | .hbm, ⟨6, _⟩ => ⟨S1536x8960, .bf16⟩
  | .hbm, ⟨7, _⟩ => ⟨S1536x1536, .fp8e4m3⟩
  | .hbm, ⟨8, _⟩ => ⟨S1536x1, .f32⟩
  | .local _ .vmem, ⟨0, _⟩ => ⟨S1536x1536, .bf16⟩
  | .local _ .vmem, ⟨1, _⟩ => ⟨S1280x768, .i8⟩
  | .local _ .vmem, ⟨2, _⟩ => ⟨S1280x768, .i8⟩
  | .local _ .vmem, ⟨3, _⟩ => ⟨S1280x48, .i32⟩
  | .local _ .vmem, ⟨4, _⟩ => ⟨S1280x48, .i32⟩
  | .local _ .vmem, ⟨5, _⟩ => ⟨S1x1280, .f32⟩
  | .local _ .vmem, ⟨6, _⟩ => ⟨S1x1280, .f32⟩
  | .local _ .vmem, ⟨7, _⟩ => ⟨S1536x1280, .bf16⟩
  | .local _ .vmem, ⟨8, _⟩ => ⟨S1536x1280, .bf16⟩
  | .local _ .vmem, ⟨9, _⟩ => ⟨S1536x1536, .fp8e4m3⟩
  | .local _ .vmem, ⟨10, _⟩ => ⟨S1536x1, .f32⟩
  | .local _ .vmem, ⟨11, _⟩ => ⟨S1536x1536, .fp8e4m3⟩
  | .local _ .vmem, ⟨12, _⟩ => ⟨S1536x128, .f32⟩
  | _, _ => ⟨S3x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x48 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S3x512x1536 : Shape := ⟨3, ![3, 512, 1536]⟩
abbrev S8960x768 : Shape := ⟨2, ![8960, 768]⟩
abbrev S8960x48 : Shape := ⟨2, ![8960, 48]⟩
abbrev S8960 : Shape := ⟨1, ![8960]⟩
abbrev S1536x1536 : Shape := ⟨2, ![1536, 1536]⟩
abbrev S_ : Shape := ⟨0, ![]⟩
abbrev S1536 : Shape := ⟨1, ![1536]⟩
abbrev S1536x1 : Shape := ⟨2, ![1536, 1]⟩
abbrev S8 : Shape := ⟨1, ![8]⟩
abbrev S8960x48x1 : Shape := ⟨3, ![8960, 48, 1]⟩
abbrev S1x1x8 : Shape := ⟨3, ![1, 1, 8]⟩
abbrev S8960x48x8 : Shape := ⟨3, ![8960, 48, 8]⟩
abbrev S8960x48x8x2 : Shape := ⟨4, ![8960, 48, 8, 2]⟩
abbrev S8960x48x8x1 : Shape := ⟨4, ![8960, 48, 8, 1]⟩
abbrev S4 : Shape := ⟨1, ![4]⟩
abbrev S1x1x1x4 : Shape := ⟨4, ![1, 1, 1, 4]⟩
abbrev S8960x48x8x4 : Shape := ⟨4, ![8960, 48, 8, 4]⟩
abbrev S8960x1536 : Shape := ⟨2, ![8960, 1536]⟩
abbrev S1x8960 : Shape := ⟨2, ![1, 8960]⟩
abbrev S1536x8960 : Shape := ⟨2, ![1536, 8960]⟩

abbrev nBuf : Space → Nat
  | .hbm => 102
  | .vmem => 6
  | .smem => 0
  | _ => 0

abbrev bufTy : (tb : Table) → Fin (tcTables nBuf tb) → BufTy
  | .hbm, ⟨0, _⟩ => ⟨S3x512x1536, .bf16⟩
  | .hbm, ⟨1, _⟩ => ⟨S8960x768, .i8⟩
  | .hbm, ⟨2, _⟩ => ⟨S8960x48, .i32⟩
  | .hbm, ⟨3, _⟩ => ⟨S8960, .f32⟩
  | .hbm, ⟨4, _⟩ => ⟨S1536x1536, .bf16⟩
  | .hbm, ⟨5, _⟩ => ⟨S1536x1536, .f32⟩
  | .hbm, ⟨6, _⟩ => ⟨S1536x1536, .f32⟩
  | .hbm, ⟨7, _⟩ => ⟨S_, .f32⟩
  | .hbm, ⟨8, _⟩ => ⟨S1536, .f32⟩
  | .hbm, ⟨9, _⟩ => ⟨S1536x1, .f32⟩
  | .hbm, ⟨10, _⟩ => ⟨S_, .f32⟩
  | .hbm, ⟨11, _⟩ => ⟨S1536x1, .f32⟩
  | .hbm, ⟨12, _⟩ => ⟨S1536x1, .f32⟩
  | .hbm, ⟨13, _⟩ => ⟨S_, .f32⟩
  | .hbm, ⟨14, _⟩ => ⟨S1536x1, .f32⟩
  | .hbm, ⟨15, _⟩ => ⟨S1536x1, .i1⟩
  | .hbm, ⟨16, _⟩ => ⟨S_, .f32⟩
  | .hbm, ⟨17, _⟩ => ⟨S1536x1, .f32⟩
  | .hbm, ⟨18, _⟩ => ⟨S1536x1, .i1⟩
  | .hbm, ⟨19, _⟩ => ⟨S1536x1, .i1⟩
  | .hbm, ⟨20, _⟩ => ⟨S1536x1, .f32⟩
  | .hbm, ⟨21, _⟩ => ⟨S_, .f32⟩
  | .hbm, ⟨22, _⟩ => ⟨S_, .f32⟩
  | .hbm, ⟨23, _⟩ => ⟨S1536x1, .f32⟩
  | .hbm, ⟨24, _⟩ => ⟨S1536x1, .f32⟩
  | .hbm, ⟨25, _⟩ => ⟨S1536x1, .f32⟩
  | .hbm, ⟨26, _⟩ => ⟨S_, .f32⟩
  | .hbm, ⟨27, _⟩ => ⟨S1536x1, .f32⟩
  | .hbm, ⟨28, _⟩ => ⟨S1536x1, .f32⟩
  | .hbm, ⟨29, _⟩ => ⟨S_, .f32⟩
  | .hbm, ⟨30, _⟩ => ⟨S1536x1, .f32⟩
  | .hbm, ⟨31, _⟩ => ⟨S1536x1, .f32⟩
  | .hbm, ⟨32, _⟩ => ⟨S_, .f32⟩
  | .hbm, ⟨33, _⟩ => ⟨S_, .f32⟩
  | .hbm, ⟨34, _⟩ => ⟨S1536x1, .f32⟩
  | .hbm, ⟨35, _⟩ => ⟨S1536x1, .f32⟩
  | .hbm, ⟨36, _⟩ => ⟨S_, .f32⟩
  | .hbm, ⟨37, _⟩ => ⟨S1536x1, .f32⟩
  | .hbm, ⟨38, _⟩ => ⟨S1536x1, .f32⟩
  | .hbm, ⟨39, _⟩ => ⟨S1536x1, .f32⟩
  | .hbm, ⟨40, _⟩ => ⟨S_, .f32⟩
  | .hbm, ⟨41, _⟩ => ⟨S1536x1, .f32⟩
  | .hbm, ⟨42, _⟩ => ⟨S1536x1, .f32⟩
  | .hbm, ⟨43, _⟩ => ⟨S1536x1536, .f32⟩
  | .hbm, ⟨44, _⟩ => ⟨S1536x1536, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1536x1536, .f32⟩
  | .hbm, ⟨49, _⟩ => ⟨S1536x1536, .f32⟩
  | .hbm, ⟨50, _⟩ => ⟨S_, .f32⟩
  | .hbm, ⟨51, _⟩ => ⟨S1536x1536, .f32⟩
  | .hbm, ⟨52, _⟩ => ⟨S1536x1536, .f32⟩
  | .hbm, ⟨53, _⟩ => ⟨S8, .i32⟩
  | .hbm, ⟨54, _⟩ => ⟨S8960x48x1, .i32⟩
  | .hbm, ⟨55, _⟩ => ⟨S_, .i32⟩
  | .hbm, ⟨56, _⟩ => ⟨S8, .i32⟩
  | .hbm, ⟨57, _⟩ => ⟨S8, .i32⟩
  | .hbm, ⟨58, _⟩ => ⟨S1x1x8, .i32⟩
  | .hbm, ⟨59, _⟩ => ⟨S8960x48x8, .i32⟩
  | .hbm, ⟨60, _⟩ => ⟨S8960x48x8, .i32⟩
  | .hbm, ⟨61, _⟩ => ⟨S8960x48x8, .i32⟩
  | .hbm, ⟨62, _⟩ => ⟨S_, .i32⟩
  | .hbm, ⟨63, _⟩ => ⟨S8960x48x8, .i32⟩
  | .hbm, ⟨64, _⟩ => ⟨S8960x48x8, .i32⟩
  | .hbm, ⟨65, _⟩ => ⟨S_, .i32⟩
  | .hbm, ⟨66, _⟩ => ⟨S8, .i32⟩
  | .hbm, ⟨67, _⟩ => ⟨S8, .i32⟩
  | .hbm, ⟨68, _⟩ => ⟨S_, .i32⟩
  | .hbm, ⟨69, _⟩ => ⟨S8, .i32⟩
  | .hbm, ⟨70, _⟩ => ⟨S8, .i32⟩
  | .hbm, ⟨71, _⟩ => ⟨S1x1x8, .i32⟩
  | .hbm, ⟨72, _⟩ => ⟨S8960x48x8, .i32⟩
  | .hbm, ⟨73, _⟩ => ⟨S8960x48x8, .i32⟩
  | .hbm, ⟨74, _⟩ => ⟨S8960x48x8, .i32⟩
  | .hbm, ⟨75, _⟩ => ⟨S_, .i32⟩
  | .hbm, ⟨76, _⟩ => ⟨S8960x48x8, .i32⟩
  | .hbm, ⟨77, _⟩ => ⟨S8960x48x8, .i32⟩
  | .hbm, ⟨78, _⟩ => ⟨S8960x48x8x2, .i8⟩
  | .hbm, ⟨79, _⟩ => ⟨S8960x48x8x1, .i8⟩
  | .hbm, ⟨80, _⟩ => ⟨S8960x48x8x1, .i8⟩
  | .hbm, ⟨81, _⟩ => ⟨S4, .i32⟩
  | .hbm, ⟨82, _⟩ => ⟨S8960x48x8x1, .i32⟩
  | .hbm, ⟨83, _⟩ => ⟨S1x1x1x4, .i32⟩
  | .hbm, ⟨84, _⟩ => ⟨S8960x48x8x4, .i32⟩
  | .hbm, ⟨85, _⟩ => ⟨S8960x48x8x4, .i32⟩
  | .hbm, ⟨86, _⟩ => ⟨S8960x48x8x4, .i1⟩
  | .hbm, ⟨87, _⟩ => ⟨S8960x48x8x1, .i32⟩
  | .hbm, ⟨88, _⟩ => ⟨S1x1x1x4, .i32⟩
  | .hbm, ⟨89, _⟩ => ⟨S8960x48x8x4, .i32⟩
  | .hbm, ⟨90, _⟩ => ⟨S8960x48x8x4, .i32⟩
  | .hbm, ⟨91, _⟩ => ⟨S8960x48x8x4, .i1⟩
  | .hbm, ⟨92, _⟩ => ⟨S_, .i8⟩
  | .hbm, ⟨93, _⟩ => ⟨S8960x48x8x4, .i8⟩
  | .hbm, ⟨94, _⟩ => ⟨S8960x48x8x4, .i8⟩
  | .hbm, ⟨95, _⟩ => ⟨S8960x48x8x4, .i8⟩
  | .hbm, ⟨96, _⟩ => ⟨S8960x48x8x4, .i8⟩
  | .hbm, ⟨97, _⟩ => ⟨S8960x48x8x4, .i8⟩
  | .hbm, ⟨98, _⟩ => ⟨S8960x1536, .i8⟩
  | .hbm, ⟨99, _⟩ => ⟨S1x8960, .f32⟩
  | .hbm, ⟨100, _⟩ => ⟨S1536x8960, .bf16⟩
  | .hbm, ⟨101, _⟩ => ⟨S1536x1536, .fp8e4m3⟩
  | .local _ .vmem, ⟨0, _⟩ => ⟨S1536x1536, .f32⟩
  | .local _ .vmem, ⟨1, _⟩ => ⟨S1536x1, .f32⟩
  | .local _ .vmem, ⟨2, _⟩ => ⟨S8960x1536, .i8⟩
  | .local _ .vmem, ⟨3, _⟩ => ⟨S1x8960, .f32⟩
  | .local _ .vmem, ⟨4, _⟩ => ⟨S1536x8960, .bf16⟩
  | .local _ .vmem, ⟨5, _⟩ => ⟨S1536x1536, .fp8e4m3⟩
  | _, _ => ⟨S3x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_cst_10 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_11 : Ref sig .tc := ⟨.hbm, 62, rfl⟩
abbrev main_v38 : Ref sig .tc := ⟨.hbm, 63, rfl⟩
abbrev main_v39 : Ref sig .tc := ⟨.hbm, 64, rfl⟩
abbrev main_c_12 : Ref sig .tc := ⟨.hbm, 65, rfl⟩
abbrev main_v40 : Ref sig .tc := ⟨.hbm, 66, rfl⟩
abbrev main_v41 : Ref sig .tc := ⟨.hbm, 67, rfl⟩
abbrev main_c_13 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_14 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_15 : Ref sig .tc := ⟨.hbm, 92, rfl⟩
abbrev main_call2_v0 : Ref sig .tc := ⟨.hbm, 93, rfl⟩
abbrev main_call2_v1 : Ref sig .tc := ⟨.hbm, 94, rfl⟩
abbrev main_v64 : Ref sig .tc := ⟨.hbm, 95, rfl⟩
abbrev main_call3_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68_0 : Ref sig .tc := ⟨.hbm, 100, rfl⟩
abbrev main_v68_1 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8960x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x8960 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Word.BodyBase.lean ====
module

public import proofs.«01_k».proof.Proof.Gen.Kernel.Frame

public import proofs.«01_k».proof.Proof.Gen.Kernel.Skeleton

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x768 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x48 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x1280 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x1536 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1536x1536 .fp8e4m3 := Memref.whole cc0_scratch0
abbrev scM0_1 : Memref sig .tc .vmem S1536x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.Word.RunA.lean ====
module

public import proofs.«01_k».proof.Proof.Word.BodyBase

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the grid's first point: the inputs keep their blocks, and every buffer the body stores into ends at the
    pieces the run finds (newest first). -/
noncomputable def runA (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole) (hc0 : cond0_0 i)
    (x0 : Vec F S1536x1536 .bf16) (x1 : Vec F S1280x768 .i8) (x2 : Vec F S1280x48 .i32) (x3 : Vec F S1x1280 .f32) :
    Σ' (L4 : List (View.Piece (Elt F) S1536x1280 .bf16)) (L5 : List (View.Piece (Elt F) S1536x1536 .fp8e4m3)) (L6 : List (View.Piece (Elt F) S1536x1 .f32)) (LS0 : List (View.Piece (Elt F) S1536x1536 .fp8e4m3)), { LS1 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_sparse24_fp8_linear_eq_skeleton]; unfold cc0_sparse24_fp8_linear_skel
    simp only [k0_part195_eq_skeleton, k0_part139_eq_skeleton, k0_part137_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part138_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Body

end
-- ==== Proof.Word.RunB.lean ====
module

public import proofs.«01_k».proof.Proof.Word.RunA

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at any later point: the inputs, the codes, the scales and the scratch keep their contents, and the tile of the
    product ends at the pieces the run finds (newest first). -/
noncomputable def runB (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole) (hc0 : ¬ cond0_0 i)
    (x0 : Vec F S1536x1536 .bf16) (x1 : Vec F S1280x768 .i8) (x2 : Vec F S1280x48 .i32) (x3 : Vec F S1x1280 .f32) (d5 : Vec F S1536x1536 .fp8e4m3) (d6 : Vec F S1536x1 .f32) (xp : Vec F S1536x1536 .fp8e4m3) (xs : Vec F S1536x128 .f32) :
    { L4 : List (View.Piece (Elt F) S1536x1280 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ owns (c : Thread nD τ) arg8 fullShare xp ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare d5 ∗ owns (c : Thread nD τ) arg7 fullShare d6 ∗ owns (c : Thread nD τ) arg8 fullShare xp ∗ owns (c : Thread nD τ) arg9 fullShare xs) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9) K } := by
  refine ⟨?_, fun E K => ?run⟩
  case run =>
    simp only [cc0_sparse24_fp8_linear_eq_skeleton]; unfold cc0_sparse24_fp8_linear_skel
    simp only [k0_part195_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    iexists _; isplitr; · ipureintro; exact harg9.read_unread _
    iexact HS1

end Cert.Kernel.Body

end
-- ==== Proof.Word.Fun.lean ====
module

public import proofs.«01_k».proof.Proof.Word.BodyBase

@[expose] public section

set_option maxRecDepth 16384

noncomputable section

namespace Cert.Kernel.Body

open Cert.Kernel Cert.Kernel.Gen
open Idealize.ShloMosaic Idealize.ShloMosaic.TcCoe

variable {F : FTy → Type} [FloatOps F]

/-- The remainder of every lane by a constant, signs as in Python. -/
def pmod {s : Shape} (hb : s.Broadcasts s) (x : IVec s 32) (c : BitVec 32) : IVec s 32 :=
  select (andi (xori (cmpi .slt (remsi x (broadcast s (Scalar.select (Scalar.cmpi .eq c 0#32) 1#32 c))) (broadcast s 0#32))
      (broadcastTo s (broadcast s (Scalar.cmpi .slt (Scalar.select (Scalar.cmpi .eq c 0#32) 1#32 c) 0#32)) hb))
      (cmpi .ne (remsi x (broadcast s (Scalar.select (Scalar.cmpi .eq c 0#32) 1#32 c))) (broadcast s 0#32)))
    (addi (remsi x (broadcast s (Scalar.select (Scalar.cmpi .eq c 0#32) 1#32 c))) (broadcast s (Scalar.select (Scalar.cmpi .eq c 0#32) 1#32 c)))
    (remsi x (broadcast s (Scalar.select (Scalar.cmpi .eq c 0#32) 1#32 c)))

/-- The quotient of every lane by a constant, rounded down. -/
def pdiv {s : Shape} (x : IVec s 32) (c : BitVec 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt c 0#32)) (Scalar.extui (Scalar.cmpi .slt c 0#32)))))
      (cmpi .ne (remsi x (broadcast s c)) (broadcast s 0#32)))
    (subi (divsi x (broadcast s c)) (broadcast s 1#32)) (divsi x (broadcast s c))

/-- The largest magnitude of a row over 448. -/
def vOf (x : Vec F S256x1536 .bf16) : FVec F S256x1 .f32 :=
  mulf (extf .f32 (shapeCast S256x1 (multiReduction .maximumf [1] S256 (absf (shapeCast S256x1536 x shapeCasts_S256x1536_S256x1536 : FVec F S256x1536 .bf16)) 0xFF80#16
    reduces_S256x1536_S256 (.inr rfl) rfl) shapeCasts_S256_S256x1 : FVec F S256x1 .bf16) bitsLt_bf16_f32) (broadcast S256x1 (Scalar.ofBits .f32 0x3B124925#32))

/-- The powers of two the exponent count compares against, one a lane. -/
def powers : FVec F S256x256 .f32 :=
  bitcastToFloat .f32 (shli (select (cmpi .sgt (iota .tc S256x256 32 [1] iota_S256x256_d1_w32) (broadcast S256x256 252#32)) (broadcast S256x256 255#32)
    (iota .tc S256x256 32 [1] iota_S256x256_d1_w32)) (broadcast S256x256 23#32))

/-- The exponent field of every row, by counting. -/
def fieldOf (v : FVec F S256x1 .f32) : IVec S256x1 32 :=
  subi (shapeCast S256x1 (multiReductionI .add [1] S256 (extui 32 (xori (cmpf .olt (broadcastTo S256x256 v broadcasts_S256x1_S256x256) powers) (constantI S256x256 1 1#1)) natLt_1_32) 0#32
    reduces_S256x256_S256 rfl) shapeCasts_S256_S256x1) (broadcast S256x1 1#32)

/-- The exponent of a field. -/
def expOf (f : IVec S256x1 32) : IVec S256x1 32 :=
  select (ori (cmpi .eq f (broadcast S256x1 0#32)) (cmpi .eq f (broadcast S256x1 255#32))) (broadcast S256x1 0#32) (subi f (broadcast S256x1 126#32))

/-- The scale of every row of a chunk. -/
def scaleOf (x : Vec F S256x1536 .bf16) : FVec F S256x1 .f32 :=
  bitcastToFloat .f32 (shli (addi (expOf (fieldOf (vOf x))) (broadcast S256x1 127#32)) (broadcast S256x1 23#32))

/-- The inverse scale of every row of a chunk. -/
def invOf (x : Vec F S256x1536 .bf16) : FVec F S256x1 .f32 :=
  bitcastToFloat .f32 (shli (subi (broadcast S256x1 127#32) (expOf (fieldOf (vOf x)))) (broadcast S256x1 23#32))

/-- The scale of every row, repeated over the lanes. -/
def xsOf (x : Vec F S256x1536 .bf16) : FVec F S256x128 .f32 :=
  shapeCast S256x128 (broadcastTo S256x128 (shapeCast S256x1 (scaleOf x) shapeCasts_S256x1_S256x1) broadcasts_S256x1_S256x128 : FVec F S256x128 .f32) shapeCasts_S256x128_S256x128

/-- The codes of a chunk. -/
def codesOf (x : Vec F S256x1536 .bf16) : FVec F S256x1536 .fp8e4m3 :=
  truncf .fp8e4m3 (minimumf (broadcast S256x1536 (Scalar.truncf .bf16 bitsLt_bf16_f32 (Scalar.ofBits .f32 0x43E00000#32)))
    (maximumf (broadcast S256x1536 (Scalar.truncf .bf16 bitsLt_bf16_f32 (Scalar.ofBits .f32 0xC3E00000#32)))
      (mulf (shapeCast S256x1536 x shapeCasts_S256x1536_S256x1536 : FVec F S256x1536 .bf16) (broadcastTo S256x1536 (truncf .bf16 (invOf x) bitsLt_bf16_f32 : FVec F S256x1 .bf16) broadcasts_S256x1_S256x1536)))) bitsLt_fp8e4m3_bf16

/-- The lane number, for the permutation of a chunk's codes. -/
def lanes256 : IVec S256x128 32 := iota .tc S256x128 32 [1] iota_S256x128_d1_w32

/-- The lane number, for the expansion of a tile's weights. -/
def lanes64 : IVec S64x128 32 := iota .tc S64x128 32 [1] iota_S64x128_d1_w32

/-- A pattern of lanes as the gather takes it, for the chunk's codes. -/
def wrap256 (p : IVec S256x128 32) : IVec S256x128 32 :=
  shapeCast S256x128 (shapeCast S256x128x1 (select (cmpi .slt p (broadcast S256x128 0#32)) (addi p (broadcast S256x128 128#32)) p) shapeCasts_S256x128_S256x128x1) shapeCasts_S256x128x1_S256x128

/-- A pattern of lanes as the gather takes it, for the tile's words. -/
def wrap64 (p : IVec S64x128 32) : IVec S64x128 32 :=
  shapeCast S64x128 (shapeCast S64x128x1 (select (cmpi .slt p (broadcast S64x128 0#32)) (addi p (broadcast S64x128 128#32)) p) shapeCasts_S64x128_S64x128x1) shapeCasts_S64x128x1_S64x128

/-- The source lane of every lane of the piece at position `p`. -/
def pat (p : BitVec 32) : IVec S256x128 32 :=
  addi (muli (broadcast S256x128 4#32) (pmod broadcasts_S256x128_S256x128 (pdiv lanes256 2#32) 32#32)) (broadcast S256x128 p)

/-- One piece of the permuted codes: of the four source registers, each lane reads the one its number selects. -/
def permPiece (s0 s1 s2 s3 : FVec F S256x128 .f32) (p : BitVec 32) : FVec F S256x128 .f32 :=
  select (cmpi .eq (pmod broadcasts_S256x128_S256x128 lanes256 2#32) (broadcast S256x128 0#32))
    (select (cmpi .slt lanes256 (broadcast S256x128 64#32)) (dynamicGather 1 s0 (wrap256 (pat p))) (dynamicGather 1 s1 (wrap256 (pat p))))
    (select (cmpi .slt lanes256 (broadcast S256x128 64#32)) (dynamicGather 1 s2 (wrap256 (pat p))) (dynamicGather 1 s3 (wrap256 (pat p))))

/-- The pieces for the first 512 columns. -/
def permK0 (v : FVec F S256x1536 .f32) (p : BitVec 32) : FVec F S256x128 .f32 :=
  permPiece (extractStridedSlice S256x128 ![0, 0] v slices_S256x1536_o0_0_S256x128) (extractStridedSlice S256x128 ![0, 128] v slices_S256x1536_o0_128_S256x128)
    (extractStridedSlice S256x128 ![0, 256] v slices_S256x1536_o0_256_S256x128) (extractStridedSlice S256x128 ![0, 384] v slices_S256x1536_o0_384_S256x128) p

/-- The pieces for the next 512 columns. -/
def permK1 (v : FVec F S256x1536 .f32) (p : BitVec 32) : FVec F S256x128 .f32 :=
  permPiece (extractStridedSlice S256x128 ![0, 512] v slices_S256x1536_o0_512_S256x128) (extractStridedSlice S256x128 ![0, 640] v slices_S256x1536_o0_640_S256x128)
    (extractStridedSlice S256x128 ![0, 768] v slices_S256x1536_o0_768_S256x128) (extractStridedSlice S256x128 ![0, 896] v slices_S256x1536_o0_896_S256x128) p

/-- The pieces for the last 512 columns. -/
def permK2 (v : FVec F S256x1536 .f32) (p : BitVec 32) : FVec F S256x128 .f32 :=
  permPiece (extractStridedSlice S256x128 ![0, 1024] v slices_S256x1536_o0_1024_S256x128) (extractStridedSlice S256x128 ![0, 1152] v slices_S256x1536_o0_1152_S256x128)
    (extractStridedSlice S256x128 ![0, 1280] v slices_S256x1536_o0_1280_S256x128) (extractStridedSlice S256x128 ![0, 1408] v slices_S256x1536_o0_1408_S256x128) p

/-- The codes of a chunk in the kernel's column order. -/
def permOf (codes : FVec F S256x1536 .fp8e4m3) : FVec F S256x1536 .fp8e4m3 :=
  shapeCast S256x1536 (truncf .fp8e4m3 (concatenate S256x1536 1
    [⟨S256x128, permK0 (extf .f32 codes bitsLt_fp8e4m3_f32) 0#32⟩, ⟨S256x128, permK0 (extf .f32 codes bitsLt_fp8e4m3_f32) 1#32⟩,
     ⟨S256x128, permK0 (extf .f32 codes bitsLt_fp8e4m3_f32) 2#32⟩, ⟨S256x128, permK0 (extf .f32 codes bitsLt_fp8e4m3_f32) 3#32⟩,
     ⟨S256x128, permK1 (extf .f32 codes bitsLt_fp8e4m3_f32) 0#32⟩, ⟨S256x128, permK1 (extf .f32 codes bitsLt_fp8e4m3_f32) 1#32⟩,
     ⟨S256x128, permK1 (extf .f32 codes bitsLt_fp8e4m3_f32) 2#32⟩, ⟨S256x128, permK1 (extf .f32 codes bitsLt_fp8e4m3_f32) 3#32⟩,
     ⟨S256x128, permK2 (extf .f32 codes bitsLt_fp8e4m3_f32) 0#32⟩, ⟨S256x128, permK2 (extf .f32 codes bitsLt_fp8e4m3_f32) 1#32⟩,
     ⟨S256x128, permK2 (extf .f32 codes bitsLt_fp8e4m3_f32) 2#32⟩, ⟨S256x128, permK2 (extf .f32 codes bitsLt_fp8e4m3_f32) 3#32⟩]
    concatenates_S256x128_S256x128_S256x128_S256x128_S256x128_S256x128_S256x128_S256x128_S256x128_S256x128_S256x128_S256x128_S256x1536_d1 : FVec F S256x1536 .f32) bitsLt_fp8e4m3_f32 : FVec F S256x1536 .fp8e4m3)
    shapeCasts_S256x1536_S256x1536

/-- The even bytes of two index words, side by side. -/
def lo2 (a c : IVec S64x48 32) : IVec S64x48 32 :=
  ori (andi a (broadcast S64x48 16711935#32)) (shli (andi c (broadcast S64x48 16711935#32)) (broadcast S64x48 8#32))

/-- The odd bytes of two index words, side by side. -/
def hi2 (a c : IVec S64x48 32) : IVec S64x48 32 :=
  ori (andi (shrui a (broadcast S64x48 8#32)) (broadcast S64x48 16711935#32)) (andi c (broadcast S64x48 (-16711936#32)))

/-- The low halves of two words, side by side. -/
def loHalf (a c : IVec S64x48 32) : IVec S64x48 32 :=
  ori (andi a (broadcast S64x48 65535#32)) (shli c (broadcast S64x48 16#32))

/-- The high halves of two words, side by side. -/
def hiHalf (a c : IVec S64x48 32) : IVec S64x48 32 :=
  ori (shrui a (broadcast S64x48 16#32)) (andi c (broadcast S64x48 (-65536#32)))

/-- The low nibbles of the two positions. -/
def loNib (p q : IVec S64x48 32) : IVec S64x48 32 :=
  ori (andi p (broadcast S64x48 252645135#32)) (shli (andi q (broadcast S64x48 252645135#32)) (broadcast S64x48 4#32))

/-- The high nibbles of the two positions. -/
def hiNib (p q : IVec S64x48 32) : IVec S64x48 32 :=
  ori (andi (shrui p (broadcast S64x48 4#32)) (broadcast S64x48 252645135#32)) (andi q (broadcast S64x48 (-252645136#32)))

/-- The nibbles of groups 0 and 1 of every word. -/
def u0 (i0 i1 i2 i3 : IVec S64x48 32) : IVec S64x48 32 := loNib (loHalf (lo2 i0 i1) (lo2 i2 i3)) (hiHalf (lo2 i0 i1) (lo2 i2 i3))
/-- The nibbles of groups 2 and 3 of every word. -/
def u1 (i0 i1 i2 i3 : IVec S64x48 32) : IVec S64x48 32 := hiNib (loHalf (lo2 i0 i1) (lo2 i2 i3)) (hiHalf (lo2 i0 i1) (lo2 i2 i3))
/-- The nibbles of groups 4 and 5 of every word. -/
def u2 (i0 i1 i2 i3 : IVec S64x48 32) : IVec S64x48 32 := loNib (loHalf (hi2 i0 i1) (hi2 i2 i3)) (hiHalf (hi2 i0 i1) (hi2 i2 i3))
/-- The nibbles of groups 6 and 7 of every word. -/
def u3 (i0 i1 i2 i3 : IVec S64x48 32) : IVec S64x48 32 := hiNib (loHalf (hi2 i0 i1) (hi2 i2 i3)) (hiHalf (hi2 i0 i1) (hi2 i2 i3))

/-- The four nibble words of the first 32 index columns, side by side. -/
def xCat (a b c d : IVec S64x48 32) : IVec S64x128 32 :=
  concatenate S64x128 1 [⟨S64x32, extractStridedSlice S64x32 ![0, 0] a slices_S64x48_o0_0_S64x32⟩, ⟨S64x32, extractStridedSlice S64x32 ![0, 0] b slices_S64x48_o0_0_S64x32⟩,
    ⟨S64x32, extractStridedSlice S64x32 ![0, 0] c slices_S64x48_o0_0_S64x32⟩, ⟨S64x32, extractStridedSlice S64x32 ![0, 0] d slices_S64x48_o0_0_S64x32⟩]
    concatenates_S64x32_S64x32_S64x32_S64x32_S64x128_d1

/-- The four nibble words of the last 16 index columns, side by side and twice. -/
def yCat (a b c d : IVec S64x48 32) : IVec S64x128 32 :=
  concatenate S64x128 1 [⟨S64x16, extractStridedSlice S64x16 ![0, 32] a slices_S64x48_o0_32_S64x16⟩, ⟨S64x16, extractStridedSlice S64x16 ![0, 32] b slices_S64x48_o0_32_S64x16⟩,
    ⟨S64x16, extractStridedSlice S64x16 ![0, 32] c slices_S64x48_o0_32_S64x16⟩, ⟨S64x16, extractStridedSlice S64x16 ![0, 32] d slices_S64x48_o0_32_S64x16⟩,
    ⟨S64x16, extractStridedSlice S64x16 ![0, 32] a slices_S64x48_o0_32_S64x16⟩, ⟨S64x16, extractStridedSlice S64x16 ![0, 32] b slices_S64x48_o0_32_S64x16⟩,
    ⟨S64x16, extractStridedSlice S64x16 ![0, 32] c slices_S64x48_o0_32_S64x16⟩, ⟨S64x16, extractStridedSlice S64x16 ![0, 32] d slices_S64x48_o0_32_S64x16⟩]
    concatenates_S64x16_S64x16_S64x16_S64x16_S64x16_S64x16_S64x16_S64x16_S64x128_d1

/-- The word of every lane, in its block of sixteen. -/
def wordL : IVec S64x128 32 := addi (muli (broadcast S64x128 8#32) (pmod broadcasts_S64x128_S64x128 lanes64 2#32)) (pdiv (pdiv lanes64 2#32) 8#32)
/-- The group of every lane. -/
def grpL : IVec S64x128 32 := pmod broadcasts_S64x128_S64x128 (pdiv lanes64 2#32) 8#32
/-- How far every lane shifts its nibble. -/
def shiftL : IVec S64x128 32 := muli (broadcast S64x128 2#32) (pmod broadcasts_S64x128_S64x128 grpL 2#32)
/-- The even lanes. -/
def evenL : IVec S64x128 1 := cmpi .eq (pmod broadcasts_S64x128_S64x128 lanes64 2#32) (broadcast S64x128 0#32)

/-- The nibbles of every lane, for the first and the second third of the columns. -/
def nib01 (x : IVec S64x128 32) (off : BitVec 32) : IVec S64x128 32 :=
  shrui (dynamicGather 1 x (wrap64 (addi (addi (muli (broadcast S64x128 32#32) (pdiv grpL 2#32)) (broadcast S64x128 off)) wordL))) shiftL

/-- The nibbles of every lane, for the last third of the columns. -/
def nib2 (y : IVec S64x128 32) : IVec S64x128 32 :=
  shrui (dynamicGather 1 y (wrap64 (addi (muli (broadcast S64x128 16#32) (pdiv grpL 2#32)) wordL))) shiftL

/-- One bit of every byte, spread over the byte. -/
def bmask (x : IVec S64x128 32) (b : BitVec 32) : IVec S64x128 32 :=
  subi (shli (andi (shrui x (broadcast S64x128 b)) (broadcast S64x128 16843009#32)) (broadcast S64x128 8#32)) (andi (shrui x (broadcast S64x128 b)) (broadcast S64x128 16843009#32))

/-- The first kept value of every lane's group. -/
def firstOf (v0 v1 : IVec S64x128 32) : IVec S64x128 32 := select evenL v0 (dynamicRotate 1 1#32 none v1 rotates_S64x128_d1)

/-- The second kept value of every lane's group, zero where both positions agree. -/
def secondOf (v0 v1 n : IVec S64x128 32) : IVec S64x128 32 :=
  andi (select evenL (dynamicRotate 1 127#32 none v0 rotates_S64x128_d1) v1)
    (ori (xori (bmask n 0#32) (bmask n 4#32)) (xori (bmask n 1#32) (bmask n 5#32)))

/-- The values that land on position 0. -/
def at0 (f s n : IVec S64x128 32) : IVec S64x128 32 :=
  ori (xori (xori f (andi f (bmask n 1#32))) (andi (xori f (andi f (bmask n 1#32))) (bmask n 0#32)))
    (xori (xori s (andi s (bmask n 5#32))) (andi (xori s (andi s (bmask n 5#32))) (bmask n 4#32)))
/-- The values that land on position 1. -/
def at1 (f s n : IVec S64x128 32) : IVec S64x128 32 :=
  ori (andi (xori f (andi f (bmask n 1#32))) (bmask n 0#32)) (andi (xori s (andi s (bmask n 5#32))) (bmask n 4#32))
/-- The values that land on position 2. -/
def at2 (f s n : IVec S64x128 32) : IVec S64x128 32 :=
  ori (xori (andi f (bmask n 1#32)) (andi (andi f (bmask n 1#32)) (bmask n 0#32))) (xori (andi s (bmask n 5#32)) (andi (andi s (bmask n 5#32)) (bmask n 4#32)))
/-- The values that land on position 3. -/
def at3 (f s n : IVec S64x128 32) : IVec S64x128 32 :=
  ori (andi (andi f (bmask n 1#32)) (bmask n 0#32)) (andi (andi s (bmask n 5#32)) (bmask n 4#32))

/-- The tile's kept values as words. -/
def wordsOf (vals : Vec F S256x768 .i8) : IVec S64x768 32 := bitcast S64x768 32 (vals : IVec S256x768 8) bitcasts_S256x768_w8_S64x768_w32

/-- The two value registers of each third. -/
def va0 (v : IVec S64x768 32) : IVec S64x128 32 := extractStridedSlice S64x128 ![0, 0] v slices_S64x768_o0_0_S64x128
/-- The second value register of the first third. -/
def vb0 (v : IVec S64x768 32) : IVec S64x128 32 := extractStridedSlice S64x128 ![0, 128] v slices_S64x768_o0_128_S64x128
/-- The first value register of the second third. -/
def va1 (v : IVec S64x768 32) : IVec S64x128 32 := extractStridedSlice S64x128 ![0, 256] v slices_S64x768_o0_256_S64x128
/-- The second value register of the second third. -/
def vb1 (v : IVec S64x768 32) : IVec S64x128 32 := extractStridedSlice S64x128 ![0, 384] v slices_S64x768_o0_384_S64x128
/-- The first value register of the last third. -/
def va2 (v : IVec S64x768 32) : IVec S64x128 32 := extractStridedSlice S64x128 ![0, 512] v slices_S64x768_o0_512_S64x128
/-- The second value register of the last third. -/
def vb2 (v : IVec S64x768 32) : IVec S64x128 32 := extractStridedSlice S64x128 ![0, 640] v slices_S64x768_o0_640_S64x128

/-- The twelve registers of a tile's dense weights, side by side. -/
def denseWords (v : IVec S64x768 32) (n0 n1 n2 : IVec S64x128 32) : IVec S64x1536 32 :=
  concatenate S64x1536 1
    [⟨S64x128, at0 (firstOf (va0 v) (vb0 v)) (secondOf (va0 v) (vb0 v) n0) n0⟩, ⟨S64x128, at1 (firstOf (va0 v) (vb0 v)) (secondOf (va0 v) (vb0 v) n0) n0⟩,
     ⟨S64x128, at2 (firstOf (va0 v) (vb0 v)) (secondOf (va0 v) (vb0 v) n0) n0⟩, ⟨S64x128, at3 (firstOf (va0 v) (vb0 v)) (secondOf (va0 v) (vb0 v) n0) n0⟩,
     ⟨S64x128, at0 (firstOf (va1 v) (vb1 v)) (secondOf (va1 v) (vb1 v) n1) n1⟩, ⟨S64x128, at1 (firstOf (va1 v) (vb1 v)) (secondOf (va1 v) (vb1 v) n1) n1⟩,
     ⟨S64x128, at2 (firstOf (va1 v) (vb1 v)) (secondOf (va1 v) (vb1 v) n1) n1⟩, ⟨S64x128, at3 (firstOf (va1 v) (vb1 v)) (secondOf (va1 v) (vb1 v) n1) n1⟩,
     ⟨S64x128, at0 (firstOf (va2 v) (vb2 v)) (secondOf (va2 v) (vb2 v) n2) n2⟩, ⟨S64x128, at1 (firstOf (va2 v) (vb2 v)) (secondOf (va2 v) (vb2 v) n2) n2⟩,
     ⟨S64x128, at2 (firstOf (va2 v) (vb2 v)) (secondOf (va2 v) (vb2 v) n2) n2⟩, ⟨S64x128, at3 (firstOf (va2 v) (vb2 v)) (secondOf (va2 v) (vb2 v) n2) n2⟩]
    concatenates_S64x128_S64x128_S64x128_S64x128_S64x128_S64x128_S64x128_S64x128_S64x128_S64x128_S64x128_S64x128_S64x1536_d1

/-- A tile's dense weights, as words of four rows. -/
def tileWords (vals : Vec F S256x768 .i8) (i0 i1 i2 i3 : IVec S64x48 32) : IVec S64x1536 32 :=
  denseWords (wordsOf vals) (nib01 (xCat (u0 i0 i1 i2 i3) (u1 i0 i1 i2 i3) (u2 i0 i1 i2 i3) (u3 i0 i1 i2 i3)) 0#32)
    (nib01 (xCat (u0 i0 i1 i2 i3) (u1 i0 i1 i2 i3) (u2 i0 i1 i2 i3) (u3 i0 i1 i2 i3)) 16#32)
    (nib2 (yCat (u0 i0 i1 i2 i3) (u1 i0 i1 i2 i3) (u2 i0 i1 i2 i3) (u3 i0 i1 i2 i3)))

/-- A tile's dense weights. -/
def tileOf (vals : Vec F S256x768 .i8) (i0 i1 i2 i3 : IVec S64x48 32) : FVec F S256x1536 .fp8e4m3 :=
  bitcastToFloat .fp8e4m3 (bitcast S256x1536 8 (tileWords vals i0 i1 i2 i3) bitcasts_S64x1536_w32_S256x1536_w8)

/-- The product of the permuted codes and a tile. -/
def accOf (xp : FVec F S1536x1536 .fp8e4m3) (w : FVec F S256x1536 .fp8e4m3) : FVec F S1536x256 .f32 :=
  matmul dot_S1536x1536_S256x1536_S1536x256_1_1_0_0_n_n none xp w (constant S1536x256 .f32 0x00000000#32)

/-- Half a tile's result, from its half of the product. -/
def outOf (acc xs : FVec F S1536x128 .f32) (ws : FVec F S1x128 .f32) : FVec F S1536x128 .bf16 :=
  truncf .bf16 (mulf (mulf acc xs) (broadcastTo S1536x128 (shapeCast S1x128 ws shapeCasts_S1x128_S1x128 : FVec F S1x128 .f32) broadcasts_S1x128_S1536x128)) bitsLt_bf16_f32

/-- The first half of a tile's product. -/
def accLo (a : FVec F S1536x256 .f32) : FVec F S1536x128 .f32 := extractStridedSlice S1536x128 ![0, 0] a slices_S1536x256_o0_0_S1536x128
/-- The second half of a tile's product. -/
def accHi (a : FVec F S1536x256 .f32) : FVec F S1536x128 .f32 := extractStridedSlice S1536x128 ![0, 128] a slices_S1536x256_o0_128_S1536x128

end Cert.Kernel.Body

end
-- ==== Proof.Word.Outs.lean ====
module

public import proofs.«01_k».proof.Proof.Word.RunA
public import proofs.«01_k».proof.Proof.Word.RunB
public import proofs.«01_k».proof.Proof.Word.Fun

@[expose] public section

set_option maxRecDepth 65536

noncomputable section

namespace Cert.Kernel.Body

open Cert.Kernel Cert.Kernel.Gen
open Idealize.ShloMosaic Idealize.ShloMosaic.TcCoe

variable {F : FTy → Type} [FloatOps F]

/-- The rows of the activations from row 0. -/
def chunk0 (x0 : Vec F S1536x1536 .bf16) : Vec F S256x1536 .bf16 := View.ld x0 (Rect.unit (s := S1536x1536) ![0, 0] S256x1536.size inb_S1536x1536_S256x1536_0_0)

/-- The rows of the activations from row 256. -/
def chunk256 (x0 : Vec F S1536x1536 .bf16) : Vec F S256x1536 .bf16 := View.ld x0 (Rect.unit (s := S1536x1536) ![256, 0] S256x1536.size inb_S1536x1536_S256x1536_256_0)

/-- The rows of the activations from row 512. -/
def chunk512 (x0 : Vec F S1536x1536 .bf16) : Vec F S256x1536 .bf16 := View.ld x0 (Rect.unit (s := S1536x1536) ![512, 0] S256x1536.size inb_S1536x1536_S256x1536_512_0)

/-- The rows of the activations from row 768. -/
def chunk768 (x0 : Vec F S1536x1536 .bf16) : Vec F S256x1536 .bf16 := View.ld x0 (Rect.unit (s := S1536x1536) ![768, 0] S256x1536.size inb_S1536x1536_S256x1536_768_0)

/-- The rows of the activations from row 1024. -/
def chunk1024 (x0 : Vec F S1536x1536 .bf16) : Vec F S256x1536 .bf16 := View.ld x0 (Rect.unit (s := S1536x1536) ![1024, 0] S256x1536.size inb_S1536x1536_S256x1536_1024_0)

/-- The rows of the activations from row 1280. -/
def chunk1280 (x0 : Vec F S1536x1536 .bf16) : Vec F S256x1536 .bf16 := View.ld x0 (Rect.unit (s := S1536x1536) ![1280, 0] S256x1536.size inb_S1536x1536_S256x1536_1280_0)

/-- Tile 0 of a block of weights. -/
def tile0 (x1 : Vec F S1280x768 .i8) (x2 : Vec F S1280x48 .i32) : FVec F S256x1536 .fp8e4m3 :=
  tileOf (View.ld x1 (Rect.unit (s := S1280x768) ![0, 0] S256x768.size inb_S1280x768_S256x768_0_0) : Vec F S256x768 .i8)
    (fun j => x2 ((⟨![0, 0], S64x48.size, ![4, 1], inb_S1280x48_S64x48_0_0_s_4_1⟩ : LoadRect S1280x48).idx j))
    (fun j => x2 ((⟨![1, 0], S64x48.size, ![4, 1], inb_S1280x48_S64x48_1_0_s_4_1⟩ : LoadRect S1280x48).idx j))
    (fun j => x2 ((⟨![2, 0], S64x48.size, ![4, 1], inb_S1280x48_S64x48_2_0_s_4_1⟩ : LoadRect S1280x48).idx j))
    (fun j => x2 ((⟨![3, 0], S64x48.size, ![4, 1], inb_S1280x48_S64x48_3_0_s_4_1⟩ : LoadRect S1280x48).idx j))

/-- Tile 1 of a block of weights. -/
def tile1 (x1 : Vec F S1280x768 .i8) (x2 : Vec F S1280x48 .i32) : FVec F S256x1536 .fp8e4m3 :=
  tileOf (View.ld x1 (Rect.unit (s := S1280x768) ![256, 0] S256x768.size inb_S1280x768_S256x768_256_0) : Vec F S256x768 .i8)
    (fun j => x2 ((⟨![256, 0], S64x48.size, ![4, 1], inb_S1280x48_S64x48_256_0_s_4_1⟩ : LoadRect S1280x48).idx j))
    (fun j => x2 ((⟨![257, 0], S64x48.size, ![4, 1], inb_S1280x48_S64x48_257_0_s_4_1⟩ : LoadRect S1280x48).idx j))
    (fun j => x2 ((⟨![258, 0], S64x48.size, ![4, 1], inb_S1280x48_S64x48_258_0_s_4_1⟩ : LoadRect S1280x48).idx j))
    (fun j => x2 ((⟨![259, 0], S64x48.size, ![4, 1], inb_S1280x48_S64x48_259_0_s_4_1⟩ : LoadRect S1280x48).idx j))

/-- Tile 2 of a block of weights. -/
def tile2 (x1 : Vec F S1280x768 .i8) (x2 : Vec F S1280x48 .i32) : FVec F S256x1536 .fp8e4m3 :=
  tileOf (View.ld x1 (Rect.unit (s := S1280x768) ![512, 0] S256x768.size inb_S1280x768_S256x768_512_0) : Vec F S256x768 .i8)
    (fun j => x2 ((⟨![512, 0], S64x48.size, ![4, 1], inb_S1280x48_S64x48_512_0_s_4_1⟩ : LoadRect S1280x48).idx j))
    (fun j => x2 ((⟨![513, 0], S64x48.size, ![4, 1], inb_S1280x48_S64x48_513_0_s_4_1⟩ : LoadRect S1280x48).idx j))
    (fun j => x2 ((⟨![514, 0], S64x48.size, ![4, 1], inb_S1280x48_S64x48_514_0_s_4_1⟩ : LoadRect S1280x48).idx j))
    (fun j => x2 ((⟨![515, 0], S64x48.size, ![4, 1], inb_S1280x48_S64x48_515_0_s_4_1⟩ : LoadRect S1280x48).idx j))

/-- Tile 3 of a block of weights. -/
def tile3 (x1 : Vec F S1280x768 .i8) (x2 : Vec F S1280x48 .i32) : FVec F S256x1536 .fp8e4m3 :=
  tileOf (View.ld x1 (Rect.unit (s := S1280x768) ![768, 0] S256x768.size inb_S1280x768_S256x768_768_0) : Vec F S256x768 .i8)
    (fun j => x2 ((⟨![768, 0], S64x48.size, ![4, 1], inb_S1280x48_S64x48_768_0_s_4_1⟩ : LoadRect S1280x48).idx j))
    (fun j => x2 ((⟨![769, 0], S64x48.size, ![4, 1], inb_S1280x48_S64x48_769_0_s_4_1⟩ : LoadRect S1280x48).idx j))
    (fun j => x2 ((⟨![770, 0], S64x48.size, ![4, 1], inb_S1280x48_S64x48_770_0_s_4_1⟩ : LoadRect S1280x48).idx j))
    (fun j => x2 ((⟨![771, 0], S64x48.size, ![4, 1], inb_S1280x48_S64x48_771_0_s_4_1⟩ : LoadRect S1280x48).idx j))

/-- Tile 4 of a block of weights. -/
def tile4 (x1 : Vec F S1280x768 .i8) (x2 : Vec F S1280x48 .i32) : FVec F S256x1536 .fp8e4m3 :=
  tileOf (View.ld x1 (Rect.unit (s := S1280x768) ![1024, 0] S256x768.size inb_S1280x768_S256x768_1024_0) : Vec F S256x768 .i8)
    (fun j => x2 ((⟨![1024, 0], S64x48.size, ![4, 1], inb_S1280x48_S64x48_1024_0_s_4_1⟩ : LoadRect S1280x48).idx j))
    (fun j => x2 ((⟨![1025, 0], S64x48.size, ![4, 1], inb_S1280x48_S64x48_1025_0_s_4_1⟩ : LoadRect S1280x48).idx j))
    (fun j => x2 ((⟨![1026, 0], S64x48.size, ![4, 1], inb_S1280x48_S64x48_1026_0_s_4_1⟩ : LoadRect S1280x48).idx j))
    (fun j => x2 ((⟨![1027, 0], S64x48.size, ![4, 1], inb_S1280x48_S64x48_1027_0_s_4_1⟩ : LoadRect S1280x48).idx j))

/-- The pieces of the codes. -/
def L5 (x0 : Vec F S1536x1536 .bf16) : List (View.Piece (Elt F) S1536x1536 .fp8e4m3) :=
   [⟨Rect.unit ![1280, 0] S256x1536.size inb_S1536x1536_S256x1536_1280_0, codesOf (chunk1280 x0)⟩,
    ⟨Rect.unit ![1024, 0] S256x1536.size inb_S1536x1536_S256x1536_1024_0, codesOf (chunk1024 x0)⟩,
    ⟨Rect.unit ![768, 0] S256x1536.size inb_S1536x1536_S256x1536_768_0, codesOf (chunk768 x0)⟩,
    ⟨Rect.unit ![512, 0] S256x1536.size inb_S1536x1536_S256x1536_512_0, codesOf (chunk512 x0)⟩,
    ⟨Rect.unit ![256, 0] S256x1536.size inb_S1536x1536_S256x1536_256_0, codesOf (chunk256 x0)⟩,
    ⟨Rect.unit ![0, 0] S256x1536.size inb_S1536x1536_S256x1536_0_0, codesOf (chunk0 x0)⟩]

/-- The pieces of the scales. -/
def L6 (x0 : Vec F S1536x1536 .bf16) : List (View.Piece (Elt F) S1536x1 .f32) :=
   [⟨Rect.unit ![1280, 0] S256x1.size inb_S1536x1_S256x1_1280_0, scaleOf (chunk1280 x0)⟩,
    ⟨Rect.unit ![1024, 0] S256x1.size inb_S1536x1_S256x1_1024_0, scaleOf (chunk1024 x0)⟩,
    ⟨Rect.unit ![768, 0] S256x1.size inb_S1536x1_S256x1_768_0, scaleOf (chunk768 x0)⟩,
    ⟨Rect.unit ![512, 0] S256x1.size inb_S1536x1_S256x1_512_0, scaleOf (chunk512 x0)⟩,
    ⟨Rect.unit ![256, 0] S256x1.size inb_S1536x1_S256x1_256_0, scaleOf (chunk256 x0)⟩,
    ⟨Rect.unit ![0, 0] S256x1.size inb_S1536x1_S256x1_0_0, scaleOf (chunk0 x0)⟩]

/-- The pieces of the permuted codes. -/
def LP (x0 : Vec F S1536x1536 .bf16) : List (View.Piece (Elt F) S1536x1536 .fp8e4m3) :=
   [⟨Rect.unit ![1280, 0] S256x1536.size inb_S1536x1536_S256x1536_1280_0, permOf <| codesOf (chunk1280 x0)⟩,
    ⟨Rect.unit ![1024, 0] S256x1536.size inb_S1536x1536_S256x1536_1024_0, permOf <| codesOf (chunk1024 x0)⟩,
    ⟨Rect.unit ![768, 0] S256x1536.size inb_S1536x1536_S256x1536_768_0, permOf <| codesOf (chunk768 x0)⟩,
    ⟨Rect.unit ![512, 0] S256x1536.size inb_S1536x1536_S256x1536_512_0, permOf <| codesOf (chunk512 x0)⟩,
    ⟨Rect.unit ![256, 0] S256x1536.size inb_S1536x1536_S256x1536_256_0, permOf <| codesOf (chunk256 x0)⟩,
    ⟨Rect.unit ![0, 0] S256x1536.size inb_S1536x1536_S256x1536_0_0, permOf <| codesOf (chunk0 x0)⟩]

/-- The pieces of the repeated scales. -/
def LX (x0 : Vec F S1536x1536 .bf16) : List (View.Piece (Elt F) S1536x128 .f32) :=
   [⟨Rect.unit ![1280, 0] S256x128.size inb_S1536x128_S256x128_1280_0, xsOf (chunk1280 x0)⟩,
    ⟨Rect.unit ![1024, 0] S256x128.size inb_S1536x128_S256x128_1024_0, xsOf (chunk1024 x0)⟩,
    ⟨Rect.unit ![768, 0] S256x128.size inb_S1536x128_S256x128_768_0, xsOf (chunk768 x0)⟩,
    ⟨Rect.unit ![512, 0] S256x128.size inb_S1536x128_S256x128_512_0, xsOf (chunk512 x0)⟩,
    ⟨Rect.unit ![256, 0] S256x128.size inb_S1536x128_S256x128_256_0, xsOf (chunk256 x0)⟩,
    ⟨Rect.unit ![0, 0] S256x128.size inb_S1536x128_S256x128_0_0, xsOf (chunk0 x0)⟩]

/-- The pieces of a block of the product. -/
def L4 (x1 : Vec F S1280x768 .i8) (x2 : Vec F S1280x48 .i32) (x3 : Vec F S1x1280 .f32) (xp : Vec F S1536x1536 .fp8e4m3) (xs : Vec F S1536x128 .f32) :
    List (View.Piece (Elt F) S1536x1280 .bf16) :=
   [⟨Rect.unit ![0, 1152] S1536x128.size inb_S1536x1280_S1536x128_0_1152, outOf (accHi (accOf (View.ld xp (Rect.unit (s := S1536x1536) ![0, 0] S1536x1536.size inb_S1536x1536_S1536x1536_0_0)) (tile4 x1 x2))) (View.ld xs (Rect.unit (s := S1536x128) ![0, 0] S1536x128.size inb_S1536x128_S1536x128_0_0)) (View.ld x3 (Rect.unit (s := S1x1280) ![0, 1152] S1x128.size inb_S1x1280_S1x128_0_1152))⟩,
    ⟨Rect.unit ![0, 1024] S1536x128.size inb_S1536x1280_S1536x128_0_1024, outOf (accLo (accOf (View.ld xp (Rect.unit (s := S1536x1536) ![0, 0] S1536x1536.size inb_S1536x1536_S1536x1536_0_0)) (tile4 x1 x2))) (View.ld xs (Rect.unit (s := S1536x128) ![0, 0] S1536x128.size inb_S1536x128_S1536x128_0_0)) (View.ld x3 (Rect.unit (s := S1x1280) ![0, 1024] S1x128.size inb_S1x1280_S1x128_0_1024))⟩,
    ⟨Rect.unit ![0, 896] S1536x128.size inb_S1536x1280_S1536x128_0_896, outOf (accHi (accOf (View.ld xp (Rect.unit (s := S1536x1536) ![0, 0] S1536x1536.size inb_S1536x1536_S1536x1536_0_0)) (tile3 x1 x2))) (View.ld xs (Rect.unit (s := S1536x128) ![0, 0] S1536x128.size inb_S1536x128_S1536x128_0_0)) (View.ld x3 (Rect.unit (s := S1x1280) ![0, 896] S1x128.size inb_S1x1280_S1x128_0_896))⟩,
    ⟨Rect.unit ![0, 768] S1536x128.size inb_S1536x1280_S1536x128_0_768, outOf (accLo (accOf (View.ld xp (Rect.unit (s := S1536x1536) ![0, 0] S1536x1536.size inb_S1536x1536_S1536x1536_0_0)) (tile3 x1 x2))) (View.ld xs (Rect.unit (s := S1536x128) ![0, 0] S1536x128.size inb_S1536x128_S1536x128_0_0)) (View.ld x3 (Rect.unit (s := S1x1280) ![0, 768] S1x128.size inb_S1x1280_S1x128_0_768))⟩,
    ⟨Rect.unit ![0, 640] S1536x128.size inb_S1536x1280_S1536x128_0_640, outOf (accHi (accOf (View.ld xp (Rect.unit (s := S1536x1536) ![0, 0] S1536x1536.size inb_S1536x1536_S1536x1536_0_0)) (tile2 x1 x2))) (View.ld xs (Rect.unit (s := S1536x128) ![0, 0] S1536x128.size inb_S1536x128_S1536x128_0_0)) (View.ld x3 (Rect.unit (s := S1x1280) ![0, 640] S1x128.size inb_S1x1280_S1x128_0_640))⟩,
    ⟨Rect.unit ![0, 512] S1536x128.size inb_S1536x1280_S1536x128_0_512, outOf (accLo (accOf (View.ld xp (Rect.unit (s := S1536x1536) ![0, 0] S1536x1536.size inb_S1536x1536_S1536x1536_0_0)) (tile2 x1 x2))) (View.ld xs (Rect.unit (s := S1536x128) ![0, 0] S1536x128.size inb_S1536x128_S1536x128_0_0)) (View.ld x3 (Rect.unit (s := S1x1280) ![0, 512] S1x128.size inb_S1x1280_S1x128_0_512))⟩,
    ⟨Rect.unit ![0, 384] S1536x128.size inb_S1536x1280_S1536x128_0_384, outOf (accHi (accOf (View.ld xp (Rect.unit (s := S1536x1536) ![0, 0] S1536x1536.size inb_S1536x1536_S1536x1536_0_0)) (tile1 x1 x2))) (View.ld xs (Rect.unit (s := S1536x128) ![0, 0] S1536x128.size inb_S1536x128_S1536x128_0_0)) (View.ld x3 (Rect.unit (s := S1x1280) ![0, 384] S1x128.size inb_S1x1280_S1x128_0_384))⟩,
    ⟨Rect.unit ![0, 256] S1536x128.size inb_S1536x1280_S1536x128_0_256, outOf (accLo (accOf (View.ld xp (Rect.unit (s := S1536x1536) ![0, 0] S1536x1536.size inb_S1536x1536_S1536x1536_0_0)) (tile1 x1 x2))) (View.ld xs (Rect.unit (s := S1536x128) ![0, 0] S1536x128.size inb_S1536x128_S1536x128_0_0)) (View.ld x3 (Rect.unit (s := S1x1280) ![0, 256] S1x128.size inb_S1x1280_S1x128_0_256))⟩,
    ⟨Rect.unit ![0, 128] S1536x128.size inb_S1536x1280_S1536x128_0_128, outOf (accHi (accOf (View.ld xp (Rect.unit (s := S1536x1536) ![0, 0] S1536x1536.size inb_S1536x1536_S1536x1536_0_0)) (tile0 x1 x2))) (View.ld xs (Rect.unit (s := S1536x128) ![0, 0] S1536x128.size inb_S1536x128_S1536x128_0_0)) (View.ld x3 (Rect.unit (s := S1x1280) ![0, 128] S1x128.size inb_S1x1280_S1x128_0_128))⟩,
    ⟨Rect.unit ![0, 0] S1536x128.size inb_S1536x1280_S1536x128_0_0, outOf (accLo (accOf (View.ld xp (Rect.unit (s := S1536x1536) ![0, 0] S1536x1536.size inb_S1536x1536_S1536x1536_0_0)) (tile0 x1 x2))) (View.ld xs (Rect.unit (s := S1536x128) ![0, 0] S1536x128.size inb_S1536x128_S1536x128_0_0)) (View.ld x3 (Rect.unit (s := S1x1280) ![0, 0] S1x128.size inb_S1x1280_S1x128_0_0))⟩]

theorem cover5 (x0 : Vec F S1536x1536 .bf16) (y : S1536x1536.Idx) : ∃ pc ∈ L5 x0, y ∈ pc.1.set := View.cover_of_tiled (L5 x0) S256x1536.size (by rfl) y
theorem cover6 (x0 : Vec F S1536x1536 .bf16) (y : S1536x1.Idx) : ∃ pc ∈ L6 x0, y ∈ pc.1.set := View.cover_of_tiled (L6 x0) S256x1.size (by rfl) y
theorem coverP (x0 : Vec F S1536x1536 .bf16) (y : S1536x1536.Idx) : ∃ pc ∈ LP x0, y ∈ pc.1.set := View.cover_of_tiled (LP x0) S256x1536.size (by rfl) y
theorem coverX (x0 : Vec F S1536x1536 .bf16) (y : S1536x128.Idx) : ∃ pc ∈ LX x0, y ∈ pc.1.set := View.cover_of_tiled (LX x0) S256x128.size (by rfl) y
theorem cover4 (x1 : Vec F S1280x768 .i8) (x2 : Vec F S1280x48 .i32) (x3 : Vec F S1x1280 .f32) (xp : Vec F S1536x1536 .fp8e4m3) (xs : Vec F S1536x128 .f32)
    (y : S1536x1280.Idx) : ∃ pc ∈ L4 x1 x2 x3 xp xs, y ∈ pc.1.set := View.cover_of_tiled (L4 x1 x2 x3 xp xs) S1536x128.size (by rfl) y

/-- The codes the first point leaves. -/
def codesA (x0 : Vec F S1536x1536 .bf16) : Vec F S1536x1536 .fp8e4m3 := View.canon (L5 x0)
/-- The scales the first point leaves. -/
def scaleA (x0 : Vec F S1536x1536 .bf16) : Vec F S1536x1 .f32 := View.canon (L6 x0)
/-- The permuted codes the first point leaves. -/
def permA (x0 : Vec F S1536x1536 .bf16) : Vec F S1536x1536 .fp8e4m3 := View.canon (LP x0)
/-- The repeated scales the first point leaves. -/
def xsA (x0 : Vec F S1536x1536 .bf16) : Vec F S1536x128 .f32 := View.canon (LX x0)
/-- The block of the product a point leaves. -/
def blockOf (x1 : Vec F S1280x768 .i8) (x2 : Vec F S1280x48 .i32) (x3 : Vec F S1x1280 .f32) (xp : Vec F S1536x1536 .fp8e4m3) (xs : Vec F S1536x128 .f32) : Vec F S1536x1280 .bf16 :=
  View.canon (L4 x1 x2 x3 xp xs)

variable (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole)

theorem runA_L6 (hc0 : cond0_0 i) (x0 : Vec F S1536x1536 .bf16) (x1 : Vec F S1280x768 .i8) (x2 : Vec F S1280x48 .i32) (x3 : Vec F S1x1280 .f32) : (runA c i arg1 harg1 arg2 harg2 arg3 harg3 arg4 harg4 arg5 harg5 arg6 harg6 arg7 harg7 arg8 harg8 arg9 harg9 hc0 x0 x1 x2 x3).2.2.1 = L6 x0 := by
  rw [show (runA c i arg1 harg1 arg2 harg2 arg3 harg3 arg4 harg4 arg5 harg5 arg6 harg6 arg7 harg7 arg8 harg8 arg9 harg9 hc0 x0 x1 x2 x3).2.2.1 = L6 (arg1.view.read (Elt F) (harg1.unread x0)) from rfl, harg1.read_unread]

theorem runA_L5 (hc0 : cond0_0 i) (x0 : Vec F S1536x1536 .bf16) (x1 : Vec F S1280x768 .i8) (x2 : Vec F S1280x48 .i32) (x3 : Vec F S1x1280 .f32) : (runA c i arg1 harg1 arg2 harg2 arg3 harg3 arg4 harg4 arg5 harg5 arg6 harg6 arg7 harg7 arg8 harg8 arg9 harg9 hc0 x0 x1 x2 x3).2.1 = L5 x0 := by
  rw [show (runA c i arg1 harg1 arg2 harg2 arg3 harg3 arg4 harg4 arg5 harg5 arg6 harg6 arg7 harg7 arg8 harg8 arg9 harg9 hc0 x0 x1 x2 x3).2.1 = L5 (arg1.view.read (Elt F) (harg1.unread x0)) from rfl, harg1.read_unread]

theorem runA_LP (hc0 : cond0_0 i) (x0 : Vec F S1536x1536 .bf16) (x1 : Vec F S1280x768 .i8) (x2 : Vec F S1280x48 .i32) (x3 : Vec F S1x1280 .f32) : (runA c i arg1 harg1 arg2 harg2 arg3 harg3 arg4 harg4 arg5 harg5 arg6 harg6 arg7 harg7 arg8 harg8 arg9 harg9 hc0 x0 x1 x2 x3).2.2.2.1 = LP x0 := by
  rw [show (runA c i arg1 harg1 arg2 harg2 arg3 harg3 arg4 harg4 arg5 harg5 arg6 harg6 arg7 harg7 arg8 harg8 arg9 harg9 hc0 x0 x1 x2 x3).2.2.2.1 = LP (arg1.view.read (Elt F) (harg1.unread x0)) from rfl, harg1.read_unread]

theorem runA_LX (hc0 : cond0_0 i) (x0 : Vec F S1536x1536 .bf16) (x1 : Vec F S1280x768 .i8) (x2 : Vec F S1280x48 .i32) (x3 : Vec F S1x1280 .f32) : (runA c i arg1 harg1 arg2 harg2 arg3 harg3 arg4 harg4 arg5 harg5 arg6 harg6 arg7 harg7 arg8 harg8 arg9 harg9 hc0 x0 x1 x2 x3).2.2.2.2.1 = LX x0 := by
  rw [show (runA c i arg1 harg1 arg2 harg2 arg3 harg3 arg4 harg4 arg5 harg5 arg6 harg6 arg7 harg7 arg8 harg8 arg9 harg9 hc0 x0 x1 x2 x3).2.2.2.2.1 = LX (arg1.view.read (Elt F) (harg1.unread x0)) from rfl, harg1.read_unread]

theorem runA_L4 (hc0 : cond0_0 i) (x0 : Vec F S1536x1536 .bf16) (x1 : Vec F S1280x768 .i8) (x2 : Vec F S1280x48 .i32) (x3 : Vec F S1x1280 .f32) : (runA c i arg1 harg1 arg2 harg2 arg3 harg3 arg4 harg4 arg5 harg5 arg6 harg6 arg7 harg7 arg8 harg8 arg9 harg9 hc0 x0 x1 x2 x3).1 = L4 x1 x2 x3 (permA x0) (xsA x0) := by
  rw [show (runA c i arg1 harg1 arg2 harg2 arg3 harg3 arg4 harg4 arg5 harg5 arg6 harg6 arg7 harg7 arg8 harg8 arg9 harg9 hc0 x0 x1 x2 x3).1 = L4 (arg2.view.read (Elt F) (harg2.unread x1)) (arg3.view.read (Elt F) (harg3.unread x2)) (arg4.view.read (Elt F) (harg4.unread x3))
    (arg8.view.read (Elt F) (arg8.view.writes (Elt F) arg8.view.junk (LP (arg1.view.read (Elt F) (harg1.unread x0)))))
    (arg9.view.read (Elt F) (arg9.view.writes (Elt F) arg9.view.junk (LX (arg1.view.read (Elt F) (harg1.unread x0))))) from rfl,
    harg1.read_unread, harg2.read_unread, harg3.read_unread, harg4.read_unread, View.read_writes_junk_eq_canon, View.read_writes_junk_eq_canon]
  rfl

theorem runB_L4 (hc0 : ¬ cond0_0 i) (x0 : Vec F S1536x1536 .bf16) (x1 : Vec F S1280x768 .i8) (x2 : Vec F S1280x48 .i32) (x3 : Vec F S1x1280 .f32) (d5 : Vec F S1536x1536 .fp8e4m3) (d6 : Vec F S1536x1 .f32) (xp : Vec F S1536x1536 .fp8e4m3) (xs : Vec F S1536x128 .f32) :
    (runB c i arg1 harg1 arg2 harg2 arg3 harg3 arg4 harg4 arg5 harg5 arg6 harg6 arg7 harg7 arg8 harg8 arg9 harg9 hc0 x0 x1 x2 x3 d5 d6 xp xs).1 = L4 x1 x2 x3 xp xs := by
  rw [show (runB c i arg1 harg1 arg2 harg2 arg3 harg3 arg4 harg4 arg5 harg5 arg6 harg6 arg7 harg7 arg8 harg8 arg9 harg9 hc0 x0 x1 x2 x3 d5 d6 xp xs).1 = L4 (arg2.view.read (Elt F) (harg2.unread x1)) (arg3.view.read (Elt F) (harg3.unread x2)) (arg4.view.read (Elt F) (harg4.unread x3))
    (arg8.view.read (Elt F) (harg8.unread xp)) (arg9.view.read (Elt F) (harg9.unread xs)) from rfl,
    harg2.read_unread, harg3.read_unread, harg4.read_unread, harg8.read_unread, harg9.read_unread]

end Cert.Kernel.Body

end
-- ==== Proof.Word.Runs.lean ====
module

public import proofs.«01_k».proof.Proof.Word.Outs

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer whose pieces cover it is owned at what the pieces leave. -/
theorem owns_of_writes {S : Shape} {ty : EltTy} (c : Dev nD) (arg : Memref sig .tc .vmem S ty) (L : List (View.Piece (Elt F) S ty))
    (hc : ∀ y : S.Idx, ∃ pc ∈ L, y ∈ pc.1.set) :
    (iprop(∃ f, arg.view.loc (c : Thread nD τ) ↦[arg.view.set]{fullShare} arg.view.writes (Elt F) f L) : sProp 𝕄)
      ⊢ owns (c : Thread nD τ) arg fullShare (View.canon L) := by
  unfold owns
  iintro ⟨%f, H⟩
  iexists _; isplitr
  swap; · iexact H
  ipureintro
  exact View.read_writes_eq_canon _ _ _ hc

theorem codesA_eq (x0 : Vec F S1536x1536 .bf16) : View.canon (L5 x0) = codesA x0 := rfl
theorem scaleA_eq (x0 : Vec F S1536x1536 .bf16) : View.canon (L6 x0) = scaleA x0 := rfl
theorem permA_eq (x0 : Vec F S1536x1536 .bf16) : View.canon (LP x0) = permA x0 := rfl
theorem xsA_eq (x0 : Vec F S1536x1536 .bf16) : View.canon (LX x0) = xsA x0 := rfl
theorem blockOf_eq (x1 : Vec F S1280x768 .i8) (x2 : Vec F S1280x48 .i32) (x3 : Vec F S1x1280 .f32) (xp : Vec F S1536x1536 .fp8e4m3) (xs : Vec F S1536x128 .f32) :
    View.canon (L4 x1 x2 x3 xp xs) = blockOf x1 x2 x3 xp xs := rfl

/-- A fact about the lists a run finds is the fact about the lists they equal. -/
theorem of_found5 {α β γ δ ε : Type} {P : α → β → γ → δ → ε → Prop} (r : Σ' (a : α) (b : β) (g : γ) (d : δ), { e : ε // P a b g d e })
    {a : α} {b : β} {g : γ} {d : δ} {e : ε} (ha : r.1 = a) (hb : r.2.1 = b) (hg : r.2.2.1 = g) (hd : r.2.2.2.1 = d) (he : r.2.2.2.2.1 = e) :
    P a b g d e := by
  subst ha hb hg hd he
  exact r.2.2.2.2.2

theorem of_found1 {α : Type} {P : α → Prop} (r : { e : α // P e }) {e : α} (he : r.1 = e) : P e := by
  subst he
  exact r.2

set_option maxHeartbeats 4000000 in
/-- The first point's run, its lists named. -/
theorem runA_found (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole) (hc0 : cond0_0 i)
    (x0 : Vec F S1536x1536 .bf16) (x1 : Vec F S1280x768 .i8) (x2 : Vec F S1280x48 .i32) (x3 : Vec F S1x1280 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f (L4 x1 x2 x3 (permA x0) (xsA x0))) ∗ (∃ f, arg6.view.loc (c : Thread nD τ) ↦[arg6.view.set]{fullShare} arg6.view.writes (Elt F) f (L5 x0)) ∗ (∃ f, arg7.view.loc (c : Thread nD τ) ↦[arg7.view.set]{fullShare} arg7.view.writes (Elt F) f (L6 x0)) ∗ (∃ f, arg8.view.loc (c : Thread nD τ) ↦[arg8.view.set]{fullShare} arg8.view.writes (Elt F) f (LP x0)) ∗ (∃ f, arg9.view.loc (c : Thread nD τ) ↦[arg9.view.set]{fullShare} arg9.view.writes (Elt F) f (LX x0))) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9) K :=
  of_found5 (runA c i arg1 harg1 arg2 harg2 arg3 harg3 arg4 harg4 arg5 harg5 arg6 harg6 arg7 harg7 arg8 harg8 arg9 harg9 hc0 x0 x1 x2 x3) (runA_L4 c i arg1 harg1 arg2 harg2 arg3 harg3 arg4 harg4 arg5 harg5 arg6 harg6 arg7 harg7 arg8 harg8 arg9 harg9 hc0 x0 x1 x2 x3) (runA_L5 c i arg1 harg1 arg2 harg2 arg3 harg3 arg4 harg4 arg5 harg5 arg6 harg6 arg7 harg7 arg8 harg8 arg9 harg9 hc0 x0 x1 x2 x3) (runA_L6 c i arg1 harg1 arg2 harg2 arg3 harg3 arg4 harg4 arg5 harg5 arg6 harg6 arg7 harg7 arg8 harg8 arg9 harg9 hc0 x0 x1 x2 x3) (runA_LP c i arg1 harg1 arg2 harg2 arg3 harg3 arg4 harg4 arg5 harg5 arg6 harg6 arg7 harg7 arg8 harg8 arg9 harg9 hc0 x0 x1 x2 x3) (runA_LX c i arg1 harg1 arg2 harg2 arg3 harg3 arg4 harg4 arg5 harg5 arg6 harg6 arg7 harg7 arg8 harg8 arg9 harg9 hc0 x0 x1 x2 x3)

set_option maxHeartbeats 4000000 in
/-- A later point's run, its list named. -/
theorem runB_found (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole) (hc0 : ¬ cond0_0 i)
    (x0 : Vec F S1536x1536 .bf16) (x1 : Vec F S1280x768 .i8) (x2 : Vec F S1280x48 .i32) (x3 : Vec F S1x1280 .f32) (d5 : Vec F S1536x1536 .fp8e4m3) (d6 : Vec F S1536x1 .f32) (xp : Vec F S1536x1536 .fp8e4m3) (xs : Vec F S1536x128 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ owns (c : Thread nD τ) arg8 fullShare xp ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f (L4 x1 x2 x3 xp xs)) ∗ owns (c : Thread nD τ) arg6 fullShare d5 ∗ owns (c : Thread nD τ) arg7 fullShare d6 ∗ owns (c : Thread nD τ) arg8 fullShare xp ∗ owns (c : Thread nD τ) arg9 fullShare xs) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9) K :=
  of_found1 (runB c i arg1 harg1 arg2 harg2 arg3 harg3 arg4 harg4 arg5 harg5 arg6 harg6 arg7 harg7 arg8 harg8 arg9 harg9 hc0 x0 x1 x2 x3 d5 d6 xp xs) (runB_L4 c i arg1 harg1 arg2 harg2 arg3 harg3 arg4 harg4 arg5 harg5 arg6 harg6 arg7 harg7 arg8 harg8 arg9 harg9 hc0 x0 x1 x2 x3 d5 d6 xp xs)

set_option maxHeartbeats 4000000 in
/-- The first point, every buffer owned at its contents. -/
theorem bodyA (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole) (hc0 : cond0_0 i)
    (x0 : Vec F S1536x1536 .bf16) (x1 : Vec F S1280x768 .i8) (x2 : Vec F S1280x48 .i32) (x3 : Vec F S1x1280 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockOf x1 x2 x3 (permA x0) (xsA x0)) ∗ owns (c : Thread nD τ) arg6 fullShare (codesA x0) ∗ owns (c : Thread nD τ) arg7 fullShare (scaleA x0) ∗ owns (c : Thread nD τ) arg8 fullShare (permA x0) ∗ owns (c : Thread nD τ) arg9 fullShare (xsA x0)) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9) K := by
  intro E K
  iintro ⟨H0, H1, H2, H3, H4, H5, H6, HS0, HS1, Hk⟩
  iapply (runA_found c i arg1 harg1 arg2 harg2 arg3 harg3 arg4 harg4 arg5 harg5 arg6 harg6 arg7 harg7 arg8 harg8 arg9 harg9 hc0 x0 x1 x2 x3 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  rw [← blockOf_eq, ← codesA_eq, ← scaleA_eq, ← permA_eq, ← xsA_eq]
  iapply Hk
  isplitl [H0]; · iexact H0
  isplitl [H1]; · iexact H1
  isplitl [H2]; · iexact H2
  isplitl [H3]; · iexact H3
  isplitl [H4]
  · iapply (owns_of_writes c arg5 _ (cover4 x1 x2 x3 _ _)); iexact H4
  isplitl [H5]
  · iapply (owns_of_writes c arg6 _ (cover5 x0)); iexact H5
  isplitl [H6]
  · iapply (owns_of_writes c arg7 _ (cover6 x0)); iexact H6
  isplitl [HS0]
  · iapply (owns_of_writes c arg8 _ (coverP x0)); iexact HS0
  iapply (owns_of_writes c arg9 _ (coverX x0)); iexact HS1

set_option maxHeartbeats 4000000 in
/-- A later point, every buffer owned at its contents. -/
theorem bodyB (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole) (hc0 : ¬ cond0_0 i)
    (x0 : Vec F S1536x1536 .bf16) (x1 : Vec F S1280x768 .i8) (x2 : Vec F S1280x48 .i32) (x3 : Vec F S1x1280 .f32) (d5 : Vec F S1536x1536 .fp8e4m3) (d6 : Vec F S1536x1 .f32) (xp : Vec F S1536x1536 .fp8e4m3) (xs : Vec F S1536x128 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ owns (c : Thread nD τ) arg8 fullShare xp ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockOf x1 x2 x3 xp xs) ∗ owns (c : Thread nD τ) arg6 fullShare d5 ∗ owns (c : Thread nD τ) arg7 fullShare d6 ∗ owns (c : Thread nD τ) arg8 fullShare xp ∗ owns (c : Thread nD τ) arg9 fullShare xs) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9) K := by
  intro E K
  iintro ⟨H0, H1, H2, H3, H4, H5, H6, HS0, HS1, Hk⟩
  iapply (runB_found c i arg1 harg1 arg2 harg2 arg3 harg3 arg4 harg4 arg5 harg5 arg6 harg6 arg7 harg7 arg8 harg8 arg9 harg9 hc0 x0 x1 x2 x3 d5 d6 xp xs E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  rw [← blockOf_eq]
  iapply Hk
  isplitl [H0]; · iexact H0
  isplitl [H1]; · iexact H1
  isplitl [H2]; · iexact H2
  isplitl [H3]; · iexact H3
  isplitl [H4]
  · iapply (owns_of_writes c arg5 _ (cover4 x1 x2 x3 _ _)); iexact H4
  isplitl [H5]; · iexact H5
  isplitl [H6]; · iexact H6
  isplitl [HS0]; · iexact HS0
  iexact HS1

end Cert.Kernel.Body

end
-- ==== Proof.Word.Body.lean ====
module

public import proofs.«01_k».proof.Proof.Word.Runs
public import Idealize.ShloMosaic.Lib.Claim
public import Idealize.ShloMosaic.Lib.Pipeline.TableIdle

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] codesA scaleA permA xsA blockOf

/-! ## The proof data -/

/-- The first point. -/
def pt0 : Fin cfg0.N := ⟨0, by rw [show cfg0.N = 7 from N_0]; omega⟩

/-- The activations, as the first point's window stages them. -/
def actX (c : Dev nD) : Vec F S1536x1536 .bf16 := iblk m c 0 pt0

/-- Between points the scratch holds the permuted codes and the repeated scales; before the first point, anything. -/
def PhiT (c : Dev nD) (t : Fin (cfg0.N + 1)) : sProp 𝕄 :=
  if t.val = 0 then Pipeline.ΦA spec0 c
  else iprop(iprop(owns (c : Thread nD τ) scM0_0 fullShare (permA (actX m c)) ∗ owns (c : Thread nD τ) scM0_1 fullShare (xsA (actX m c))) ∗ (∃ r, prngReg c r))

/-- What every window's buffer holds after the body at a point: an input its block, the product's window its tile, the
    codes' and the scales' windows what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOf (iblk m c 1 t) (iblk m c 2 t) (iblk m c 3 t) (permA (actX m c)) (xsA (actX m c))
    | ⟨5, _⟩ => codesA (actX m c)
    | ⟨6, _⟩ => scaleA (actX m c)
  Φ t := PhiT m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blockOf (iblk m c 1 t) (iblk m c 2 t) (iblk m c 3 t) (permA (actX m c)) (xsA (actX m c)) := by dsimp only [dats]
theorem after0_5 (c : Dev nD) (t : Fin cfg0.N) : (dats m 0 c).after 5 t = codesA (actX m c) := by dsimp only [dats]
theorem after0_6 (c : Dev nD) (t : Fin cfg0.N) : (dats m 0 c).after 6 t = scaleA (actX m c) := by dsimp only [dats]
theorem Phi_eq (c : Dev nD) (t : Fin (cfg0.N + 1)) : (dats m 0 c).Φ t = PhiT m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Where the codes' and the scales' windows hold what the first point stored -/

theorem idle0_5 : ∀ t : Fin cfg0.N, cfg0.idle 5 (grid0.coords t) = !decide (t.val % 7 = 0) := fun t => by
  show (!(k0_cond1 (grid0.coords t) == 1#1)) = _
  have h := hcond0_0 t
  unfold cond0_0 at h
  by_cases h0 : t.val % 7 = 0
  · rw [h.mpr h0]; simp [h0]
  · simp [h0, h]

theorem idle0_6 : ∀ t : Fin cfg0.N, cfg0.idle 6 (grid0.coords t) = !decide (t.val % 7 = 0) := idle0_5

theorem fresh0_5 (n : ℕ) (h1 : n ≠ 0) (h2 : n < 7) : cfg0.fresh 5 n = false := by
  rw [cfg0.fresh_tab 5 (fun n => n == 0 || n == 7) rfl (fun t => by
    have ht : t.val < 7 := lt_of_lt_of_eq t.isLt N_0
    have hf : (cfg0.win 5).flush t = decide (t.val % 7 = 6) := by rw [Bool.eq_iff_iff, flush0_5 t]; simp
    have hi : cfg0.idle 5 (cfg0.grid.coords t) = !decide (t.val % 7 = 0) := idle0_5 t
    rw [hf, hi]
    generalize t.val = k at ht ⊢
    revert k; decide) n (by rw [show cfg0.N = 7 from N_0]; omega)]
  have a : (n == 0) = false := by simpa using h1
  have b : (n == 7) = false := by simp; omega
  simp [a, b]

theorem fresh0_6 (n : ℕ) (h1 : n ≠ 0) (h2 : n < 7) : cfg0.fresh 6 n = false := by
  rw [cfg0.fresh_tab 6 (fun n => n == 0 || n == 7) rfl (fun t => by
    have ht : t.val < 7 := lt_of_lt_of_eq t.isLt N_0
    have hf : (cfg0.win 6).flush t = decide (t.val % 7 = 6) := by rw [Bool.eq_iff_iff, flush0_6 t]; simp
    have hi : cfg0.idle 6 (cfg0.grid.coords t) = !decide (t.val % 7 = 0) := idle0_6 t
    rw [hf, hi]
    generalize t.val = k at ht ⊢
    revert k; decide) n (by rw [show cfg0.N = 7 from N_0]; omega)]
  have a : (n == 0) = false := by simpa using h1
  have b : (n == 7) = false := by simp; omega
  simp [a, b]

theorem before0_5 (c : Dev nD) (t : Fin cfg0.N) (ht : t.val ≠ 0) (d) : (dats m 0 c).before 5 t d = codesA (actX m c) := by
  rw [(dats m 0 c).before_out_traj 5 rfl (fun _ _ => rfl) (fun s _ _ _ => by rw [after0_5, after0_5]) t.val t rfl d,
    fresh0_5 t.val ht (lt_of_lt_of_eq t.isLt N_0), after0_5]
  simp only [Bool.false_eq_true, if_false]

theorem before0_6 (c : Dev nD) (t : Fin cfg0.N) (ht : t.val ≠ 0) (d) : (dats m 0 c).before 6 t d = scaleA (actX m c) := by
  rw [(dats m 0 c).before_out_traj 6 rfl (fun _ _ => rfl) (fun s _ _ _ => by rw [after0_6, after0_6]) t.val t rfl d,
    fresh0_6 t.val ht (lt_of_lt_of_eq t.isLt N_0), after0_6]
  simp only [Bool.false_eq_true, if_false]

/-- At a later point the codes' window is left as it was. -/
theorem leaves0_5 (c : Dev nD) (t : Fin cfg0.N) (ht : t.val ≠ 0) :
    owns (c : Thread nD τ) (ms0_5 t) fullShare (codesA (actX m c)) ⊢ ((dats m 0 c).leavesExact 5 t : sProp 𝕄) := by
  have hN : t.val < 7 := lt_of_lt_of_eq t.isLt N_0
  have hi : cfg0.idle 5 (cfg0.grid.coords t) = true := by rw [show cfg0.grid.coords t = grid0.coords t from rfl, idle0_5]; simp; omega
  by_cases h6 : t.val % 7 = 6
  · rw [show (dats m 0 c).leavesExact 5 t = owns (c : Thread nD τ) (ms0_5 t) fullShare ((dats m 0 c).after 5 t) from by
      unfold Dat.leavesExact; rw [hi, (flush0_5 t).mpr h6], after0_5]
  · rw [(dats m 0 c).leavesExact_idle 5 t hi (by rw [Bool.eq_false_iff, Ne, flush0_5 t]; exact h6)]
    iintro H
    iexists (codesA (actX m c))
    rw [before0_5 m c t ht]
    iexact H

/-- At a later point the scales' window is left as it was. -/
theorem leaves0_6 (c : Dev nD) (t : Fin cfg0.N) (ht : t.val ≠ 0) :
    owns (c : Thread nD τ) (ms0_6 t) fullShare (scaleA (actX m c)) ⊢ ((dats m 0 c).leavesExact 6 t : sProp 𝕄) := by
  have hN : t.val < 7 := lt_of_lt_of_eq t.isLt N_0
  have hi : cfg0.idle 6 (cfg0.grid.coords t) = true := by rw [show cfg0.grid.coords t = grid0.coords t from rfl, idle0_6]; simp; omega
  by_cases h6 : t.val % 7 = 6
  · rw [show (dats m 0 c).leavesExact 6 t = owns (c : Thread nD τ) (ms0_6 t) fullShare ((dats m 0 c).after 6 t) from by
      unfold Dat.leavesExact; rw [hi, (flush0_6 t).mpr h6], after0_6]
  · rw [(dats m 0 c).leavesExact_idle 6 t hi (by rw [Bool.eq_false_iff, Ne, flush0_6 t]; exact h6)]
    iintro H
    iexists (scaleA (actX m c))
    rw [before0_6 m c t ht]
    iexact H

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the first point by the first run, every later point by the second. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [Phi_eq, Phi_eq]
  have hN : t.val < 7 := lt_of_lt_of_eq t.isLt (show cfg0.N = 7 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  have hsucc : PhiT m c t.succ = iprop(iprop(owns (c : Thread nD τ) scM0_0 fullShare (permA (actX m c)) ∗ owns (c : Thread nD τ) scM0_1 fullShare (xsA (actX m c))) ∗ (∃ r, prngReg c r)) := by
    unfold PhiT; rw [if_neg (by simp)]
  rw [hsucc]
  by_cases h0 : t.val % 7 = 0
  · obtain rfl : t = pt0 := Fin.ext (by show t.val = 0; omega)
    have hi5 : cfg0.idle 5 (cfg0.grid.coords pt0) = false := by rw [show cfg0.grid.coords pt0 = grid0.coords pt0 from rfl, idle0_5]; rfl
    have hi6 : cfg0.idle 6 (cfg0.grid.coords pt0) = false := by rw [show cfg0.grid.coords pt0 = grid0.coords pt0 from rfl, idle0_6]; rfl
    rw [show (dats m 0 c).leavesExact 5 pt0 = owns (c : Thread nD τ) (ms0_5 pt0) fullShare ((dats m 0 c).after 5 pt0) from by
      unfold Dat.leavesExact; rw [hi5], after0_5]
    rw [show (dats m 0 c).leavesExact 6 pt0 = owns (c : Thread nD τ) (ms0_6 pt0) fullShare ((dats m 0 c).after 6 pt0) from by
      unfold Dat.leavesExact; rw [hi6], after0_6]
    rw [show PhiT m c pt0.castSucc = Pipeline.ΦA spec0 c from by unfold PhiT; rw [if_pos (by rfl)], PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (bodyA c (grid0.coords pt0) _ _ _ _ _ _ _ _ _ _ _ _ _ _ _ _ _ _ ((hcond0_0 pt0).mpr h0) (iblk m c 0 pt0) (iblk m c 1 pt0) (iblk m c 2 pt0) (iblk m c 3 pt0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have ht : t.val ≠ 0 := by omega
    rw [show PhiT m c t.castSucc = iprop(iprop(owns (c : Thread nD τ) scM0_0 fullShare (permA (actX m c)) ∗ owns (c : Thread nD τ) scM0_1 fullShare (xsA (actX m c))) ∗ (∃ r, prngReg c r)) from by
      unfold PhiT; rw [if_neg (by simpa using ht)]]
    simp only [before0_5 m c t ht, before0_6 m c t ht]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (bodyB c (grid0.coords t) _ _ _ _ _ _ _ _ _ _ _ _ _ _ _ _ _ _ (fun h => h0 ((hcond0_0 t).mp h)) (iblk m c 0 t) (iblk m c 1 t) (iblk m c 2 t) (iblk m c 3 t)
      (codesA (actX m c)) (scaleA (actX m c)) (permA (actX m c)) (xsA (actX m c)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (leaves0_5 m c t ht); iexact H5
    iapply (leaves0_6 m c t ht); iexact H6

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem Phi_in (c : Dev nD) : Pipeline.ΦA spec0 c ⊢ ((dats m 0 c).Φ 0 : sProp 𝕄) := by
  rw [Phi_eq, show PhiT m c 0 = Pipeline.ΦA spec0 c from by unfold PhiT; rw [if_pos (by rfl)]]

theorem Phi_out (c : Dev nD) : ((dats m 0 c).Φ (Fin.last cfg0.N) : sProp 𝕄) ⊢ Pipeline.ΦA spec0 c := by
  rw [Phi_eq, show PhiT m c (Fin.last cfg0.N) = iprop(iprop(owns (c : Thread nD τ) scM0_0 fullShare (permA (actX m c)) ∗ owns (c : Thread nD τ) scM0_1 fullShare (xsA (actX m c))) ∗ (∃ r, prngReg c r)) from by
    unfold PhiT; rw [if_neg (by rw [Fin.val_last, show cfg0.N = 7 from N_0]; omega)], PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The run, with every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- Every weakly fair execution terminates, every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Body

end
-- ==== Proof.BodyBase.lean ====
module

public import proofs.«01_k».proof.Proof.Gen.KernelIdeal.Frame

public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x768 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x48 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x1280 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x1536 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1536x1536 .fp8e4m3 := Memref.whole cc0_scratch0
abbrev scM0_1 : Memref sig .tc .vmem S1536x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.RunA.lean ====
module

public import proofs.«01_k».proof.Proof.BodyBase

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the grid's first point: the inputs keep their blocks, and every buffer the body stores into ends at the
    pieces the run finds (newest first). -/
noncomputable def runA (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole) (hc0 : cond0_0 i)
    (x0 : Vec F S1536x1536 .bf16) (x1 : Vec F S1280x768 .i8) (x2 : Vec F S1280x48 .i32) (x3 : Vec F S1x1280 .f32) :
    Σ' (L4 : List (View.Piece (Elt F) S1536x1280 .bf16)) (L5 : List (View.Piece (Elt F) S1536x1536 .fp8e4m3)) (L6 : List (View.Piece (Elt F) S1536x1 .f32)) (LS0 : List (View.Piece (Elt F) S1536x1536 .fp8e4m3)), { LS1 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_sparse24_fp8_linear_eq_skeleton]; unfold cc0_sparse24_fp8_linear_skel
    simp only [k0_part195_eq_skeleton, k0_part139_eq_skeleton, k0_part137_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part138_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Body

end
-- ==== Proof.RunB.lean ====
module

public import proofs.«01_k».proof.Proof.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at any later point: the inputs, the codes, the scales and the scratch keep their contents, and the tile of the
    product ends at the pieces the run finds (newest first). -/
noncomputable def runB (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole) (hc0 : ¬ cond0_0 i)
    (x0 : Vec F S1536x1536 .bf16) (x1 : Vec F S1280x768 .i8) (x2 : Vec F S1280x48 .i32) (x3 : Vec F S1x1280 .f32) (d5 : Vec F S1536x1536 .fp8e4m3) (d6 : Vec F S1536x1 .f32) (xp : Vec F S1536x1536 .fp8e4m3) (xs : Vec F S1536x128 .f32) :
    { L4 : List (View.Piece (Elt F) S1536x1280 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ owns (c : Thread nD τ) arg8 fullShare xp ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare d5 ∗ owns (c : Thread nD τ) arg7 fullShare d6 ∗ owns (c : Thread nD τ) arg8 fullShare xp ∗ owns (c : Thread nD τ) arg9 fullShare xs) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9) K } := by
  refine ⟨?_, fun E K => ?run⟩
  case run =>
    simp only [cc0_sparse24_fp8_linear_eq_skeleton]; unfold cc0_sparse24_fp8_linear_skel
    simp only [k0_part195_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    iexists _; isplitr; · ipureintro; exact harg9.read_unread _
    iexact HS1

end Cert.KernelIdeal.Body

end
-- ==== Proof.Fun.lean ====
module

public import proofs.«01_k».proof.Proof.BodyBase

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

/-- The remainder of every lane by a constant, signs as in Python. -/
def pmod {s : Shape} (hb : s.Broadcasts s) (x : IVec s 32) (c : BitVec 32) : IVec s 32 :=
  select (andi (xori (cmpi .slt (remsi x (broadcast s (Scalar.select (Scalar.cmpi .eq c 0#32) 1#32 c))) (broadcast s 0#32))
      (broadcastTo s (broadcast s (Scalar.cmpi .slt (Scalar.select (Scalar.cmpi .eq c 0#32) 1#32 c) 0#32)) hb))
      (cmpi .ne (remsi x (broadcast s (Scalar.select (Scalar.cmpi .eq c 0#32) 1#32 c))) (broadcast s 0#32)))
    (addi (remsi x (broadcast s (Scalar.select (Scalar.cmpi .eq c 0#32) 1#32 c))) (broadcast s (Scalar.select (Scalar.cmpi .eq c 0#32) 1#32 c)))
    (remsi x (broadcast s (Scalar.select (Scalar.cmpi .eq c 0#32) 1#32 c)))

/-- The quotient of every lane by a constant, rounded down. -/
def pdiv {s : Shape} (x : IVec s 32) (c : BitVec 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt c 0#32)) (Scalar.extui (Scalar.cmpi .slt c 0#32)))))
      (cmpi .ne (remsi x (broadcast s c)) (broadcast s 0#32)))
    (subi (divsi x (broadcast s c)) (broadcast s 1#32)) (divsi x (broadcast s c))

/-- The largest magnitude of a row over 448. -/
def vOf (x : Vec F S256x1536 .bf16) : FVec F S256x1 .f32 :=
  mulf (extf .f32 (shapeCast S256x1 (multiReduction .maximumf [1] S256 (absf (shapeCast S256x1536 x shapeCasts_S256x1536_S256x1536 : FVec F S256x1536 .bf16)) 0xFF80#16
    reduces_S256x1536_S256 (.inr rfl) rfl) shapeCasts_S256_S256x1 : FVec F S256x1 .bf16) bitsLt_bf16_f32) (broadcast S256x1 (Scalar.ofBits .f32 0x3B124925#32))

/-- The powers of two the exponent count compares against, one a lane. -/
def powers : FVec F S256x256 .f32 :=
  bitcastToFloat .f32 (shli (select (cmpi .sgt (iota .tc S256x256 32 [1] iota_S256x256_d1_w32) (broadcast S256x256 252#32)) (broadcast S256x256 255#32)
    (iota .tc S256x256 32 [1] iota_S256x256_d1_w32)) (broadcast S256x256 23#32))

/-- The exponent field of every row, by counting. -/
def fieldOf (v : FVec F S256x1 .f32) : IVec S256x1 32 :=
  subi (shapeCast S256x1 (multiReductionI .add [1] S256 (extui 32 (xori (cmpf .olt (broadcastTo S256x256 v broadcasts_S256x1_S256x256) powers) (constantI S256x256 1 1#1)) natLt_1_32) 0#32
    reduces_S256x256_S256 rfl) shapeCasts_S256_S256x1) (broadcast S256x1 1#32)

/-- The exponent of a field. -/
def expOf (f : IVec S256x1 32) : IVec S256x1 32 :=
  select (ori (cmpi .eq f (broadcast S256x1 0#32)) (cmpi .eq f (broadcast S256x1 255#32))) (broadcast S256x1 0#32) (subi f (broadcast S256x1 126#32))

/-- The scale of every row of a chunk. -/
def scaleOf (x : Vec F S256x1536 .bf16) : FVec F S256x1 .f32 :=
  bitcastToFloat .f32 (shli (addi (expOf (fieldOf (vOf x))) (broadcast S256x1 127#32)) (broadcast S256x1 23#32))

/-- The inverse scale of every row of a chunk. -/
def invOf (x : Vec F S256x1536 .bf16) : FVec F S256x1 .f32 :=
  bitcastToFloat .f32 (shli (subi (broadcast S256x1 127#32) (expOf (fieldOf (vOf x)))) (broadcast S256x1 23#32))

/-- The scale of every row, repeated over the lanes. -/
def xsOf (x : Vec F S256x1536 .bf16) : FVec F S256x128 .f32 :=
  shapeCast S256x128 (broadcastTo S256x128 (shapeCast S256x1 (scaleOf x) shapeCasts_S256x1_S256x1) broadcasts_S256x1_S256x128 : FVec F S256x128 .f32) shapeCasts_S256x128_S256x128

/-- The codes of a chunk. -/
def codesOf (x : Vec F S256x1536 .bf16) : FVec F S256x1536 .fp8e4m3 :=
  truncf .fp8e4m3 (minimumf (broadcast S256x1536 (Scalar.truncf .bf16 bitsLt_bf16_f32 (Scalar.ofBits .f32 0x43E00000#32)))
    (maximumf (broadcast S256x1536 (Scalar.truncf .bf16 bitsLt_bf16_f32 (Scalar.ofBits .f32 0xC3E00000#32)))
      (mulf (shapeCast S256x1536 x shapeCasts_S256x1536_S256x1536 : FVec F S256x1536 .bf16) (broadcastTo S256x1536 (truncf .bf16 (invOf x) bitsLt_bf16_f32 : FVec F S256x1 .bf16) broadcasts_S256x1_S256x1536)))) bitsLt_fp8e4m3_bf16

/-- The lane number, for the permutation of a chunk's codes. -/
def lanes256 : IVec S256x128 32 := iota .tc S256x128 32 [1] iota_S256x128_d1_w32

/-- The lane number, for the expansion of a tile's weights. -/
def lanes64 : IVec S64x128 32 := iota .tc S64x128 32 [1] iota_S64x128_d1_w32

/-- A pattern of lanes as the gather takes it, for the chunk's codes. -/
def wrap256 (p : IVec S256x128 32) : IVec S256x128 32 :=
  shapeCast S256x128 (shapeCast S256x128x1 (select (cmpi .slt p (broadcast S256x128 0#32)) (addi p (broadcast S256x128 128#32)) p) shapeCasts_S256x128_S256x128x1) shapeCasts_S256x128x1_S256x128

/-- A pattern of lanes as the gather takes it, for the tile's words. -/
def wrap64 (p : IVec S64x128 32) : IVec S64x128 32 :=
  shapeCast S64x128 (shapeCast S64x128x1 (select (cmpi .slt p (broadcast S64x128 0#32)) (addi p (broadcast S64x128 128#32)) p) shapeCasts_S64x128_S64x128x1) shapeCasts_S64x128x1_S64x128

/-- The source lane of every lane of the piece at position `p`. -/
def pat (p : BitVec 32) : IVec S256x128 32 :=
  addi (muli (broadcast S256x128 4#32) (pmod broadcasts_S256x128_S256x128 (pdiv lanes256 2#32) 32#32)) (broadcast S256x128 p)

/-- One piece of the permuted codes: of the four source registers, each lane reads the one its number selects. -/
def permPiece (s0 s1 s2 s3 : FVec F S256x128 .f32) (p : BitVec 32) : FVec F S256x128 .f32 :=
  select (cmpi .eq (pmod broadcasts_S256x128_S256x128 lanes256 2#32) (broadcast S256x128 0#32))
    (select (cmpi .slt lanes256 (broadcast S256x128 64#32)) (dynamicGather 1 s0 (wrap256 (pat p))) (dynamicGather 1 s1 (wrap256 (pat p))))
    (select (cmpi .slt lanes256 (broadcast S256x128 64#32)) (dynamicGather 1 s2 (wrap256 (pat p))) (dynamicGather 1 s3 (wrap256 (pat p))))

/-- The pieces for the first 512 columns. -/
def permK0 (v : FVec F S256x1536 .f32) (p : BitVec 32) : FVec F S256x128 .f32 :=
  permPiece (extractStridedSlice S256x128 ![0, 0] v slices_S256x1536_o0_0_S256x128) (extractStridedSlice S256x128 ![0, 128] v slices_S256x1536_o0_128_S256x128)
    (extractStridedSlice S256x128 ![0, 256] v slices_S256x1536_o0_256_S256x128) (extractStridedSlice S256x128 ![0, 384] v slices_S256x1536_o0_384_S256x128) p

/-- The pieces for the next 512 columns. -/
def permK1 (v : FVec F S256x1536 .f32) (p : BitVec 32) : FVec F S256x128 .f32 :=
  permPiece (extractStridedSlice S256x128 ![0, 512] v slices_S256x1536_o0_512_S256x128) (extractStridedSlice S256x128 ![0, 640] v slices_S256x1536_o0_640_S256x128)
    (extractStridedSlice S256x128 ![0, 768] v slices_S256x1536_o0_768_S256x128) (extractStridedSlice S256x128 ![0, 896] v slices_S256x1536_o0_896_S256x128) p

/-- The pieces for the last 512 columns. -/
def permK2 (v : FVec F S256x1536 .f32) (p : BitVec 32) : FVec F S256x128 .f32 :=
  permPiece (extractStridedSlice S256x128 ![0, 1024] v slices_S256x1536_o0_1024_S256x128) (extractStridedSlice S256x128 ![0, 1152] v slices_S256x1536_o0_1152_S256x128)
    (extractStridedSlice S256x128 ![0, 1280] v slices_S256x1536_o0_1280_S256x128) (extractStridedSlice S256x128 ![0, 1408] v slices_S256x1536_o0_1408_S256x128) p

/-- The codes of a chunk in the kernel's column order. -/
def permOf (codes : FVec F S256x1536 .fp8e4m3) : FVec F S256x1536 .fp8e4m3 :=
  shapeCast S256x1536 (truncf .fp8e4m3 (concatenate S256x1536 1
    [⟨S256x128, permK0 (extf .f32 codes bitsLt_fp8e4m3_f32) 0#32⟩, ⟨S256x128, permK0 (extf .f32 codes bitsLt_fp8e4m3_f32) 1#32⟩,
     ⟨S256x128, permK0 (extf .f32 codes bitsLt_fp8e4m3_f32) 2#32⟩, ⟨S256x128, permK0 (extf .f32 codes bitsLt_fp8e4m3_f32) 3#32⟩,
     ⟨S256x128, permK1 (extf .f32 codes bitsLt_fp8e4m3_f32) 0#32⟩, ⟨S256x128, permK1 (extf .f32 codes bitsLt_fp8e4m3_f32) 1#32⟩,
     ⟨S256x128, permK1 (extf .f32 codes bitsLt_fp8e4m3_f32) 2#32⟩, ⟨S256x128, permK1 (extf .f32 codes bitsLt_fp8e4m3_f32) 3#32⟩,
     ⟨S256x128, permK2 (extf .f32 codes bitsLt_fp8e4m3_f32) 0#32⟩, ⟨S256x128, permK2 (extf .f32 codes bitsLt_fp8e4m3_f32) 1#32⟩,
     ⟨S256x128, permK2 (extf .f32 codes bitsLt_fp8e4m3_f32) 2#32⟩, ⟨S256x128, permK2 (extf .f32 codes bitsLt_fp8e4m3_f32) 3#32⟩]
    concatenates_S256x128_S256x128_S256x128_S256x128_S256x128_S256x128_S256x128_S256x128_S256x128_S256x128_S256x128_S256x128_S256x1536_d1 : FVec F S256x1536 .f32) bitsLt_fp8e4m3_f32 : FVec F S256x1536 .fp8e4m3)
    shapeCasts_S256x1536_S256x1536

/-- The even bytes of two index words, side by side. -/
def lo2 (a c : IVec S64x48 32) : IVec S64x48 32 :=
  ori (andi a (broadcast S64x48 16711935#32)) (shli (andi c (broadcast S64x48 16711935#32)) (broadcast S64x48 8#32))

/-- The odd bytes of two index words, side by side. -/
def hi2 (a c : IVec S64x48 32) : IVec S64x48 32 :=
  ori (andi (shrui a (broadcast S64x48 8#32)) (broadcast S64x48 16711935#32)) (andi c (broadcast S64x48 (-16711936#32)))

/-- The low halves of two words, side by side. -/
def loHalf (a c : IVec S64x48 32) : IVec S64x48 32 :=
  ori (andi a (broadcast S64x48 65535#32)) (shli c (broadcast S64x48 16#32))

/-- The high halves of two words, side by side. -/
def hiHalf (a c : IVec S64x48 32) : IVec S64x48 32 :=
  ori (shrui a (broadcast S64x48 16#32)) (andi c (broadcast S64x48 (-65536#32)))

/-- The low nibbles of the two positions. -/
def loNib (p q : IVec S64x48 32) : IVec S64x48 32 :=
  ori (andi p (broadcast S64x48 252645135#32)) (shli (andi q (broadcast S64x48 252645135#32)) (broadcast S64x48 4#32))

/-- The high nibbles of the two positions. -/
def hiNib (p q : IVec S64x48 32) : IVec S64x48 32 :=
  ori (andi (shrui p (broadcast S64x48 4#32)) (broadcast S64x48 252645135#32)) (andi q (broadcast S64x48 (-252645136#32)))

/-- The nibbles of groups 0 and 1 of every word. -/
def u0 (i0 i1 i2 i3 : IVec S64x48 32) : IVec S64x48 32 := loNib (loHalf (lo2 i0 i1) (lo2 i2 i3)) (hiHalf (lo2 i0 i1) (lo2 i2 i3))
/-- The nibbles of groups 2 and 3 of every word. -/
def u1 (i0 i1 i2 i3 : IVec S64x48 32) : IVec S64x48 32 := hiNib (loHalf (lo2 i0 i1) (lo2 i2 i3)) (hiHalf (lo2 i0 i1) (lo2 i2 i3))
/-- The nibbles of groups 4 and 5 of every word. -/
def u2 (i0 i1 i2 i3 : IVec S64x48 32) : IVec S64x48 32 := loNib (loHalf (hi2 i0 i1) (hi2 i2 i3)) (hiHalf (hi2 i0 i1) (hi2 i2 i3))
/-- The nibbles of groups 6 and 7 of every word. -/
def u3 (i0 i1 i2 i3 : IVec S64x48 32) : IVec S64x48 32 := hiNib (loHalf (hi2 i0 i1) (hi2 i2 i3)) (hiHalf (hi2 i0 i1) (hi2 i2 i3))

/-- The four nibble words of the first 32 index columns, side by side. -/
def xCat (a b c d : IVec S64x48 32) : IVec S64x128 32 :=
  concatenate S64x128 1 [⟨S64x32, extractStridedSlice S64x32 ![0, 0] a slices_S64x48_o0_0_S64x32⟩, ⟨S64x32, extractStridedSlice S64x32 ![0, 0] b slices_S64x48_o0_0_S64x32⟩,
    ⟨S64x32, extractStridedSlice S64x32 ![0, 0] c slices_S64x48_o0_0_S64x32⟩, ⟨S64x32, extractStridedSlice S64x32 ![0, 0] d slices_S64x48_o0_0_S64x32⟩]
    concatenates_S64x32_S64x32_S64x32_S64x32_S64x128_d1

/-- The four nibble words of the last 16 index columns, side by side and twice. -/
def yCat (a b c d : IVec S64x48 32) : IVec S64x128 32 :=
  concatenate S64x128 1 [⟨S64x16, extractStridedSlice S64x16 ![0, 32] a slices_S64x48_o0_32_S64x16⟩, ⟨S64x16, extractStridedSlice S64x16 ![0, 32] b slices_S64x48_o0_32_S64x16⟩,
    ⟨S64x16, extractStridedSlice S64x16 ![0, 32] c slices_S64x48_o0_32_S64x16⟩, ⟨S64x16, extractStridedSlice S64x16 ![0, 32] d slices_S64x48_o0_32_S64x16⟩,
    ⟨S64x16, extractStridedSlice S64x16 ![0, 32] a slices_S64x48_o0_32_S64x16⟩, ⟨S64x16, extractStridedSlice S64x16 ![0, 32] b slices_S64x48_o0_32_S64x16⟩,
    ⟨S64x16, extractStridedSlice S64x16 ![0, 32] c slices_S64x48_o0_32_S64x16⟩, ⟨S64x16, extractStridedSlice S64x16 ![0, 32] d slices_S64x48_o0_32_S64x16⟩]
    concatenates_S64x16_S64x16_S64x16_S64x16_S64x16_S64x16_S64x16_S64x16_S64x128_d1

/-- The word of every lane, in its block of sixteen. -/
def wordL : IVec S64x128 32 := addi (muli (broadcast S64x128 8#32) (pmod broadcasts_S64x128_S64x128 lanes64 2#32)) (pdiv (pdiv lanes64 2#32) 8#32)
/-- The group of every lane. -/
def grpL : IVec S64x128 32 := pmod broadcasts_S64x128_S64x128 (pdiv lanes64 2#32) 8#32
/-- How far every lane shifts its nibble. -/
def shiftL : IVec S64x128 32 := muli (broadcast S64x128 2#32) (pmod broadcasts_S64x128_S64x128 grpL 2#32)
/-- The even lanes. -/
def evenL : IVec S64x128 1 := cmpi .eq (pmod broadcasts_S64x128_S64x128 lanes64 2#32) (broadcast S64x128 0#32)

/-- The nibbles of every lane, for the first and the second third of the columns. -/
def nib01 (x : IVec S64x128 32) (off : BitVec 32) : IVec S64x128 32 :=
  shrui (dynamicGather 1 x (wrap64 (addi (addi (muli (broadcast S64x128 32#32) (pdiv grpL 2#32)) (broadcast S64x128 off)) wordL))) shiftL

/-- The nibbles of every lane, for the last third of the columns. -/
def nib2 (y : IVec S64x128 32) : IVec S64x128 32 :=
  shrui (dynamicGather 1 y (wrap64 (addi (muli (broadcast S64x128 16#32) (pdiv grpL 2#32)) wordL))) shiftL

/-- One bit of every byte, spread over the byte. -/
def bmask (x : IVec S64x128 32) (b : BitVec 32) : IVec S64x128 32 :=
  subi (shli (andi (shrui x (broadcast S64x128 b)) (broadcast S64x128 16843009#32)) (broadcast S64x128 8#32)) (andi (shrui x (broadcast S64x128 b)) (broadcast S64x128 16843009#32))

/-- The first kept value of every lane's group. -/
def firstOf (v0 v1 : IVec S64x128 32) : IVec S64x128 32 := select evenL v0 (dynamicRotate 1 1#32 none v1 rotates_S64x128_d1)

/-- The second kept value of every lane's group, zero where both positions agree. -/
def secondOf (v0 v1 n : IVec S64x128 32) : IVec S64x128 32 :=
  andi (select evenL (dynamicRotate 1 127#32 none v0 rotates_S64x128_d1) v1)
    (ori (xori (bmask n 0#32) (bmask n 4#32)) (xori (bmask n 1#32) (bmask n 5#32)))

/-- The values that land on position 0. -/
def at0 (f s n : IVec S64x128 32) : IVec S64x128 32 :=
  ori (xori (xori f (andi f (bmask n 1#32))) (andi (xori f (andi f (bmask n 1#32))) (bmask n 0#32)))
    (xori (xori s (andi s (bmask n 5#32))) (andi (xori s (andi s (bmask n 5#32))) (bmask n 4#32)))
/-- The values that land on position 1. -/
def at1 (f s n : IVec S64x128 32) : IVec S64x128 32 :=
  ori (andi (xori f (andi f (bmask n 1#32))) (bmask n 0#32)) (andi (xori s (andi s (bmask n 5#32))) (bmask n 4#32))
/-- The values that land on position 2. -/
def at2 (f s n : IVec S64x128 32) : IVec S64x128 32 :=
  ori (xori (andi f (bmask n 1#32)) (andi (andi f (bmask n 1#32)) (bmask n 0#32))) (xori (andi s (bmask n 5#32)) (andi (andi s (bmask n 5#32)) (bmask n 4#32)))
/-- The values that land on position 3. -/
def at3 (f s n : IVec S64x128 32) : IVec S64x128 32 :=
  ori (andi (andi f (bmask n 1#32)) (bmask n 0#32)) (andi (andi s (bmask n 5#32)) (bmask n 4#32))

/-- The tile's kept values as words. -/
def wordsOf (vals : Vec F S256x768 .i8) : IVec S64x768 32 := bitcast S64x768 32 (vals : IVec S256x768 8) bitcasts_S256x768_w8_S64x768_w32

/-- The two value registers of each third. -/
def va0 (v : IVec S64x768 32) : IVec S64x128 32 := extractStridedSlice S64x128 ![0, 0] v slices_S64x768_o0_0_S64x128
/-- The second value register of the first third. -/
def vb0 (v : IVec S64x768 32) : IVec S64x128 32 := extractStridedSlice S64x128 ![0, 128] v slices_S64x768_o0_128_S64x128
/-- The first value register of the second third. -/
def va1 (v : IVec S64x768 32) : IVec S64x128 32 := extractStridedSlice S64x128 ![0, 256] v slices_S64x768_o0_256_S64x128
/-- The second value register of the second third. -/
def vb1 (v : IVec S64x768 32) : IVec S64x128 32 := extractStridedSlice S64x128 ![0, 384] v slices_S64x768_o0_384_S64x128
/-- The first value register of the last third. -/
def va2 (v : IVec S64x768 32) : IVec S64x128 32 := extractStridedSlice S64x128 ![0, 512] v slices_S64x768_o0_512_S64x128
/-- The second value register of the last third. -/
def vb2 (v : IVec S64x768 32) : IVec S64x128 32 := extractStridedSlice S64x128 ![0, 640] v slices_S64x768_o0_640_S64x128

/-- The twelve registers of a tile's dense weights, side by side. -/
def denseWords (v : IVec S64x768 32) (n0 n1 n2 : IVec S64x128 32) : IVec S64x1536 32 :=
  concatenate S64x1536 1
    [⟨S64x128, at0 (firstOf (va0 v) (vb0 v)) (secondOf (va0 v) (vb0 v) n0) n0⟩, ⟨S64x128, at1 (firstOf (va0 v) (vb0 v)) (secondOf (va0 v) (vb0 v) n0) n0⟩,
     ⟨S64x128, at2 (firstOf (va0 v) (vb0 v)) (secondOf (va0 v) (vb0 v) n0) n0⟩, ⟨S64x128, at3 (firstOf (va0 v) (vb0 v)) (secondOf (va0 v) (vb0 v) n0) n0⟩,
     ⟨S64x128, at0 (firstOf (va1 v) (vb1 v)) (secondOf (va1 v) (vb1 v) n1) n1⟩, ⟨S64x128, at1 (firstOf (va1 v) (vb1 v)) (secondOf (va1 v) (vb1 v) n1) n1⟩,
     ⟨S64x128, at2 (firstOf (va1 v) (vb1 v)) (secondOf (va1 v) (vb1 v) n1) n1⟩, ⟨S64x128, at3 (firstOf (va1 v) (vb1 v)) (secondOf (va1 v) (vb1 v) n1) n1⟩,
     ⟨S64x128, at0 (firstOf (va2 v) (vb2 v)) (secondOf (va2 v) (vb2 v) n2) n2⟩, ⟨S64x128, at1 (firstOf (va2 v) (vb2 v)) (secondOf (va2 v) (vb2 v) n2) n2⟩,
     ⟨S64x128, at2 (firstOf (va2 v) (vb2 v)) (secondOf (va2 v) (vb2 v) n2) n2⟩, ⟨S64x128, at3 (firstOf (va2 v) (vb2 v)) (secondOf (va2 v) (vb2 v) n2) n2⟩]
    concatenates_S64x128_S64x128_S64x128_S64x128_S64x128_S64x128_S64x128_S64x128_S64x128_S64x128_S64x128_S64x128_S64x1536_d1

/-- A tile's dense weights, as words of four rows. -/
def tileWords (vals : Vec F S256x768 .i8) (i0 i1 i2 i3 : IVec S64x48 32) : IVec S64x1536 32 :=
  denseWords (wordsOf vals) (nib01 (xCat (u0 i0 i1 i2 i3) (u1 i0 i1 i2 i3) (u2 i0 i1 i2 i3) (u3 i0 i1 i2 i3)) 0#32)
    (nib01 (xCat (u0 i0 i1 i2 i3) (u1 i0 i1 i2 i3) (u2 i0 i1 i2 i3) (u3 i0 i1 i2 i3)) 16#32)
    (nib2 (yCat (u0 i0 i1 i2 i3) (u1 i0 i1 i2 i3) (u2 i0 i1 i2 i3) (u3 i0 i1 i2 i3)))

/-- A tile's dense weights. -/
def tileOf (vals : Vec F S256x768 .i8) (i0 i1 i2 i3 : IVec S64x48 32) : FVec F S256x1536 .fp8e4m3 :=
  bitcastToFloat .fp8e4m3 (bitcast S256x1536 8 (tileWords vals i0 i1 i2 i3) bitcasts_S64x1536_w32_S256x1536_w8)

/-- The product of the permuted codes and a tile. -/
def accOf (xp : FVec F S1536x1536 .fp8e4m3) (w : FVec F S256x1536 .fp8e4m3) : FVec F S1536x256 .f32 :=
  matmul dot_S1536x1536_S256x1536_S1536x256_1_1_0_0_n_n none xp w (constant S1536x256 .f32 0x00000000#32)

/-- Half a tile's result, from its half of the product. -/
def outOf (acc xs : FVec F S1536x128 .f32) (ws : FVec F S1x128 .f32) : FVec F S1536x128 .bf16 :=
  truncf .bf16 (mulf (mulf acc xs) (broadcastTo S1536x128 (shapeCast S1x128 ws shapeCasts_S1x128_S1x128 : FVec F S1x128 .f32) broadcasts_S1x128_S1536x128)) bitsLt_bf16_f32

/-- The first half of a tile's product. -/
def accLo (a : FVec F S1536x256 .f32) : FVec F S1536x128 .f32 := extractStridedSlice S1536x128 ![0, 0] a slices_S1536x256_o0_0_S1536x128
/-- The second half of a tile's product. -/
def accHi (a : FVec F S1536x256 .f32) : FVec F S1536x128 .f32 := extractStridedSlice S1536x128 ![0, 128] a slices_S1536x256_o0_128_S1536x128

end Cert.KernelIdeal.Body

end
-- ==== Proof.Outs.lean ====
module

public import proofs.«01_k».proof.Proof.RunA
public import proofs.«01_k».proof.Proof.RunB
public import proofs.«01_k».proof.Proof.Fun

@[expose] public section

set_option maxRecDepth 65536

noncomputable section

namespace Cert.KernelIdeal.Body

open Cert.KernelIdeal Cert.KernelIdeal.Gen
open Idealize.ShloMosaic Idealize.ShloMosaic.TcCoe

variable {F : FTy → Type} [FloatOps F]

/-- The rows of the activations from row 0. -/
def chunk0 (x0 : Vec F S1536x1536 .bf16) : Vec F S256x1536 .bf16 := View.ld x0 (Rect.unit (s := S1536x1536) ![0, 0] S256x1536.size inb_S1536x1536_S256x1536_0_0)

/-- The rows of the activations from row 256. -/
def chunk256 (x0 : Vec F S1536x1536 .bf16) : Vec F S256x1536 .bf16 := View.ld x0 (Rect.unit (s := S1536x1536) ![256, 0] S256x1536.size inb_S1536x1536_S256x1536_256_0)

/-- The rows of the activations from row 512. -/
def chunk512 (x0 : Vec F S1536x1536 .bf16) : Vec F S256x1536 .bf16 := View.ld x0 (Rect.unit (s := S1536x1536) ![512, 0] S256x1536.size inb_S1536x1536_S256x1536_512_0)

/-- The rows of the activations from row 768. -/
def chunk768 (x0 : Vec F S1536x1536 .bf16) : Vec F S256x1536 .bf16 := View.ld x0 (Rect.unit (s := S1536x1536) ![768, 0] S256x1536.size inb_S1536x1536_S256x1536_768_0)

/-- The rows of the activations from row 1024. -/
def chunk1024 (x0 : Vec F S1536x1536 .bf16) : Vec F S256x1536 .bf16 := View.ld x0 (Rect.unit (s := S1536x1536) ![1024, 0] S256x1536.size inb_S1536x1536_S256x1536_1024_0)

/-- The rows of the activations from row 1280. -/
def chunk1280 (x0 : Vec F S1536x1536 .bf16) : Vec F S256x1536 .bf16 := View.ld x0 (Rect.unit (s := S1536x1536) ![1280, 0] S256x1536.size inb_S1536x1536_S256x1536_1280_0)

/-- Tile 0 of a block of weights. -/
def tile0 (x1 : Vec F S1280x768 .i8) (x2 : Vec F S1280x48 .i32) : FVec F S256x1536 .fp8e4m3 :=
  tileOf (View.ld x1 (Rect.unit (s := S1280x768) ![0, 0] S256x768.size inb_S1280x768_S256x768_0_0) : Vec F S256x768 .i8)
    (fun j => x2 ((⟨![0, 0], S64x48.size, ![4, 1], inb_S1280x48_S64x48_0_0_s_4_1⟩ : LoadRect S1280x48).idx j))
    (fun j => x2 ((⟨![1, 0], S64x48.size, ![4, 1], inb_S1280x48_S64x48_1_0_s_4_1⟩ : LoadRect S1280x48).idx j))
    (fun j => x2 ((⟨![2, 0], S64x48.size, ![4, 1], inb_S1280x48_S64x48_2_0_s_4_1⟩ : LoadRect S1280x48).idx j))
    (fun j => x2 ((⟨![3, 0], S64x48.size, ![4, 1], inb_S1280x48_S64x48_3_0_s_4_1⟩ : LoadRect S1280x48).idx j))

/-- Tile 1 of a block of weights. -/
def tile1 (x1 : Vec F S1280x768 .i8) (x2 : Vec F S1280x48 .i32) : FVec F S256x1536 .fp8e4m3 :=
  tileOf (View.ld x1 (Rect.unit (s := S1280x768) ![256, 0] S256x768.size inb_S1280x768_S256x768_256_0) : Vec F S256x768 .i8)
    (fun j => x2 ((⟨![256, 0], S64x48.size, ![4, 1], inb_S1280x48_S64x48_256_0_s_4_1⟩ : LoadRect S1280x48).idx j))
    (fun j => x2 ((⟨![257, 0], S64x48.size, ![4, 1], inb_S1280x48_S64x48_257_0_s_4_1⟩ : LoadRect S1280x48).idx j))
    (fun j => x2 ((⟨![258, 0], S64x48.size, ![4, 1], inb_S1280x48_S64x48_258_0_s_4_1⟩ : LoadRect S1280x48).idx j))
    (fun j => x2 ((⟨![259, 0], S64x48.size, ![4, 1], inb_S1280x48_S64x48_259_0_s_4_1⟩ : LoadRect S1280x48).idx j))

/-- Tile 2 of a block of weights. -/
def tile2 (x1 : Vec F S1280x768 .i8) (x2 : Vec F S1280x48 .i32) : FVec F S256x1536 .fp8e4m3 :=
  tileOf (View.ld x1 (Rect.unit (s := S1280x768) ![512, 0] S256x768.size inb_S1280x768_S256x768_512_0) : Vec F S256x768 .i8)
    (fun j => x2 ((⟨![512, 0], S64x48.size, ![4, 1], inb_S1280x48_S64x48_512_0_s_4_1⟩ : LoadRect S1280x48).idx j))
    (fun j => x2 ((⟨![513, 0], S64x48.size, ![4, 1], inb_S1280x48_S64x48_513_0_s_4_1⟩ : LoadRect S1280x48).idx j))
    (fun j => x2 ((⟨![514, 0], S64x48.size, ![4, 1], inb_S1280x48_S64x48_514_0_s_4_1⟩ : LoadRect S1280x48).idx j))
    (fun j => x2 ((⟨![515, 0], S64x48.size, ![4, 1], inb_S1280x48_S64x48_515_0_s_4_1⟩ : LoadRect S1280x48).idx j))

/-- Tile 3 of a block of weights. -/
def tile3 (x1 : Vec F S1280x768 .i8) (x2 : Vec F S1280x48 .i32) : FVec F S256x1536 .fp8e4m3 :=
  tileOf (View.ld x1 (Rect.unit (s := S1280x768) ![768, 0] S256x768.size inb_S1280x768_S256x768_768_0) : Vec F S256x768 .i8)
    (fun j => x2 ((⟨![768, 0], S64x48.size, ![4, 1], inb_S1280x48_S64x48_768_0_s_4_1⟩ : LoadRect S1280x48).idx j))
    (fun j => x2 ((⟨![769, 0], S64x48.size, ![4, 1], inb_S1280x48_S64x48_769_0_s_4_1⟩ : LoadRect S1280x48).idx j))
    (fun j => x2 ((⟨![770, 0], S64x48.size, ![4, 1], inb_S1280x48_S64x48_770_0_s_4_1⟩ : LoadRect S1280x48).idx j))
    (fun j => x2 ((⟨![771, 0], S64x48.size, ![4, 1], inb_S1280x48_S64x48_771_0_s_4_1⟩ : LoadRect S1280x48).idx j))

/-- Tile 4 of a block of weights. -/
def tile4 (x1 : Vec F S1280x768 .i8) (x2 : Vec F S1280x48 .i32) : FVec F S256x1536 .fp8e4m3 :=
  tileOf (View.ld x1 (Rect.unit (s := S1280x768) ![1024, 0] S256x768.size inb_S1280x768_S256x768_1024_0) : Vec F S256x768 .i8)
    (fun j => x2 ((⟨![1024, 0], S64x48.size, ![4, 1], inb_S1280x48_S64x48_1024_0_s_4_1⟩ : LoadRect S1280x48).idx j))
    (fun j => x2 ((⟨![1025, 0], S64x48.size, ![4, 1], inb_S1280x48_S64x48_1025_0_s_4_1⟩ : LoadRect S1280x48).idx j))
    (fun j => x2 ((⟨![1026, 0], S64x48.size, ![4, 1], inb_S1280x48_S64x48_1026_0_s_4_1⟩ : LoadRect S1280x48).idx j))
    (fun j => x2 ((⟨![1027, 0], S64x48.size, ![4, 1], inb_S1280x48_S64x48_1027_0_s_4_1⟩ : LoadRect S1280x48).idx j))

/-- The pieces of the codes. -/
def L5 (x0 : Vec F S1536x1536 .bf16) : List (View.Piece (Elt F) S1536x1536 .fp8e4m3) :=
   [⟨Rect.unit ![1280, 0] S256x1536.size inb_S1536x1536_S256x1536_1280_0, codesOf (chunk1280 x0)⟩,
    ⟨Rect.unit ![1024, 0] S256x1536.size inb_S1536x1536_S256x1536_1024_0, codesOf (chunk1024 x0)⟩,
    ⟨Rect.unit ![768, 0] S256x1536.size inb_S1536x1536_S256x1536_768_0, codesOf (chunk768 x0)⟩,
    ⟨Rect.unit ![512, 0] S256x1536.size inb_S1536x1536_S256x1536_512_0, codesOf (chunk512 x0)⟩,
    ⟨Rect.unit ![256, 0] S256x1536.size inb_S1536x1536_S256x1536_256_0, codesOf (chunk256 x0)⟩,
    ⟨Rect.unit ![0, 0] S256x1536.size inb_S1536x1536_S256x1536_0_0, codesOf (chunk0 x0)⟩]

/-- The pieces of the scales. -/
def L6 (x0 : Vec F S1536x1536 .bf16) : List (View.Piece (Elt F) S1536x1 .f32) :=
   [⟨Rect.unit ![1280, 0] S256x1.size inb_S1536x1_S256x1_1280_0, scaleOf (chunk1280 x0)⟩,
    ⟨Rect.unit ![1024, 0] S256x1.size inb_S1536x1_S256x1_1024_0, scaleOf (chunk1024 x0)⟩,
    ⟨Rect.unit ![768, 0] S256x1.size inb_S1536x1_S256x1_768_0, scaleOf (chunk768 x0)⟩,
    ⟨Rect.unit ![512, 0] S256x1.size inb_S1536x1_S256x1_512_0, scaleOf (chunk512 x0)⟩,
    ⟨Rect.unit ![256, 0] S256x1.size inb_S1536x1_S256x1_256_0, scaleOf (chunk256 x0)⟩,
    ⟨Rect.unit ![0, 0] S256x1.size inb_S1536x1_S256x1_0_0, scaleOf (chunk0 x0)⟩]

/-- The pieces of the permuted codes. -/
def LP (x0 : Vec F S1536x1536 .bf16) : List (View.Piece (Elt F) S1536x1536 .fp8e4m3) :=
   [⟨Rect.unit ![1280, 0] S256x1536.size inb_S1536x1536_S256x1536_1280_0, permOf <| codesOf (chunk1280 x0)⟩,
    ⟨Rect.unit ![1024, 0] S256x1536.size inb_S1536x1536_S256x1536_1024_0, permOf <| codesOf (chunk1024 x0)⟩,
    ⟨Rect.unit ![768, 0] S256x1536.size inb_S1536x1536_S256x1536_768_0, permOf <| codesOf (chunk768 x0)⟩,
    ⟨Rect.unit ![512, 0] S256x1536.size inb_S1536x1536_S256x1536_512_0, permOf <| codesOf (chunk512 x0)⟩,
    ⟨Rect.unit ![256, 0] S256x1536.size inb_S1536x1536_S256x1536_256_0, permOf <| codesOf (chunk256 x0)⟩,
    ⟨Rect.unit ![0, 0] S256x1536.size inb_S1536x1536_S256x1536_0_0, permOf <| codesOf (chunk0 x0)⟩]

/-- The pieces of the repeated scales. -/
def LX (x0 : Vec F S1536x1536 .bf16) : List (View.Piece (Elt F) S1536x128 .f32) :=
   [⟨Rect.unit ![1280, 0] S256x128.size inb_S1536x128_S256x128_1280_0, xsOf (chunk1280 x0)⟩,
    ⟨Rect.unit ![1024, 0] S256x128.size inb_S1536x128_S256x128_1024_0, xsOf (chunk1024 x0)⟩,
    ⟨Rect.unit ![768, 0] S256x128.size inb_S1536x128_S256x128_768_0, xsOf (chunk768 x0)⟩,
    ⟨Rect.unit ![512, 0] S256x128.size inb_S1536x128_S256x128_512_0, xsOf (chunk512 x0)⟩,
    ⟨Rect.unit ![256, 0] S256x128.size inb_S1536x128_S256x128_256_0, xsOf (chunk256 x0)⟩,
    ⟨Rect.unit ![0, 0] S256x128.size inb_S1536x128_S256x128_0_0, xsOf (chunk0 x0)⟩]

/-- The pieces of a block of the product. -/
def L4 (x1 : Vec F S1280x768 .i8) (x2 : Vec F S1280x48 .i32) (x3 : Vec F S1x1280 .f32) (xp : Vec F S1536x1536 .fp8e4m3) (xs : Vec F S1536x128 .f32) :
    List (View.Piece (Elt F) S1536x1280 .bf16) :=
   [⟨Rect.unit ![0, 1152] S1536x128.size inb_S1536x1280_S1536x128_0_1152, outOf (accHi (accOf (View.ld xp (Rect.unit (s := S1536x1536) ![0, 0] S1536x1536.size inb_S1536x1536_S1536x1536_0_0)) (tile4 x1 x2))) (View.ld xs (Rect.unit (s := S1536x128) ![0, 0] S1536x128.size inb_S1536x128_S1536x128_0_0)) (View.ld x3 (Rect.unit (s := S1x1280) ![0, 1152] S1x128.size inb_S1x1280_S1x128_0_1152))⟩,
    ⟨Rect.unit ![0, 1024] S1536x128.size inb_S1536x1280_S1536x128_0_1024, outOf (accLo (accOf (View.ld xp (Rect.unit (s := S1536x1536) ![0, 0] S1536x1536.size inb_S1536x1536_S1536x1536_0_0)) (tile4 x1 x2))) (View.ld xs (Rect.unit (s := S1536x128) ![0, 0] S1536x128.size inb_S1536x128_S1536x128_0_0)) (View.ld x3 (Rect.unit (s := S1x1280) ![0, 1024] S1x128.size inb_S1x1280_S1x128_0_1024))⟩,
    ⟨Rect.unit ![0, 896] S1536x128.size inb_S1536x1280_S1536x128_0_896, outOf (accHi (accOf (View.ld xp (Rect.unit (s := S1536x1536) ![0, 0] S1536x1536.size inb_S1536x1536_S1536x1536_0_0)) (tile3 x1 x2))) (View.ld xs (Rect.unit (s := S1536x128) ![0, 0] S1536x128.size inb_S1536x128_S1536x128_0_0)) (View.ld x3 (Rect.unit (s := S1x1280) ![0, 896] S1x128.size inb_S1x1280_S1x128_0_896))⟩,
    ⟨Rect.unit ![0, 768] S1536x128.size inb_S1536x1280_S1536x128_0_768, outOf (accLo (accOf (View.ld xp (Rect.unit (s := S1536x1536) ![0, 0] S1536x1536.size inb_S1536x1536_S1536x1536_0_0)) (tile3 x1 x2))) (View.ld xs (Rect.unit (s := S1536x128) ![0, 0] S1536x128.size inb_S1536x128_S1536x128_0_0)) (View.ld x3 (Rect.unit (s := S1x1280) ![0, 768] S1x128.size inb_S1x1280_S1x128_0_768))⟩,
    ⟨Rect.unit ![0, 640] S1536x128.size inb_S1536x1280_S1536x128_0_640, outOf (accHi (accOf (View.ld xp (Rect.unit (s := S1536x1536) ![0, 0] S1536x1536.size inb_S1536x1536_S1536x1536_0_0)) (tile2 x1 x2))) (View.ld xs (Rect.unit (s := S1536x128) ![0, 0] S1536x128.size inb_S1536x128_S1536x128_0_0)) (View.ld x3 (Rect.unit (s := S1x1280) ![0, 640] S1x128.size inb_S1x1280_S1x128_0_640))⟩,
    ⟨Rect.unit ![0, 512] S1536x128.size inb_S1536x1280_S1536x128_0_512, outOf (accLo (accOf (View.ld xp (Rect.unit (s := S1536x1536) ![0, 0] S1536x1536.size inb_S1536x1536_S1536x1536_0_0)) (tile2 x1 x2))) (View.ld xs (Rect.unit (s := S1536x128) ![0, 0] S1536x128.size inb_S1536x128_S1536x128_0_0)) (View.ld x3 (Rect.unit (s := S1x1280) ![0, 512] S1x128.size inb_S1x1280_S1x128_0_512))⟩,
    ⟨Rect.unit ![0, 384] S1536x128.size inb_S1536x1280_S1536x128_0_384, outOf (accHi (accOf (View.ld xp (Rect.unit (s := S1536x1536) ![0, 0] S1536x1536.size inb_S1536x1536_S1536x1536_0_0)) (tile1 x1 x2))) (View.ld xs (Rect.unit (s := S1536x128) ![0, 0] S1536x128.size inb_S1536x128_S1536x128_0_0)) (View.ld x3 (Rect.unit (s := S1x1280) ![0, 384] S1x128.size inb_S1x1280_S1x128_0_384))⟩,
    ⟨Rect.unit ![0, 256] S1536x128.size inb_S1536x1280_S1536x128_0_256, outOf (accLo (accOf (View.ld xp (Rect.unit (s := S1536x1536) ![0, 0] S1536x1536.size inb_S1536x1536_S1536x1536_0_0)) (tile1 x1 x2))) (View.ld xs (Rect.unit (s := S1536x128) ![0, 0] S1536x128.size inb_S1536x128_S1536x128_0_0)) (View.ld x3 (Rect.unit (s := S1x1280) ![0, 256] S1x128.size inb_S1x1280_S1x128_0_256))⟩,
    ⟨Rect.unit ![0, 128] S1536x128.size inb_S1536x1280_S1536x128_0_128, outOf (accHi (accOf (View.ld xp (Rect.unit (s := S1536x1536) ![0, 0] S1536x1536.size inb_S1536x1536_S1536x1536_0_0)) (tile0 x1 x2))) (View.ld xs (Rect.unit (s := S1536x128) ![0, 0] S1536x128.size inb_S1536x128_S1536x128_0_0)) (View.ld x3 (Rect.unit (s := S1x1280) ![0, 128] S1x128.size inb_S1x1280_S1x128_0_128))⟩,
    ⟨Rect.unit ![0, 0] S1536x128.size inb_S1536x1280_S1536x128_0_0, outOf (accLo (accOf (View.ld xp (Rect.unit (s := S1536x1536) ![0, 0] S1536x1536.size inb_S1536x1536_S1536x1536_0_0)) (tile0 x1 x2))) (View.ld xs (Rect.unit (s := S1536x128) ![0, 0] S1536x128.size inb_S1536x128_S1536x128_0_0)) (View.ld x3 (Rect.unit (s := S1x1280) ![0, 0] S1x128.size inb_S1x1280_S1x128_0_0))⟩]

theorem cover5 (x0 : Vec F S1536x1536 .bf16) (y : S1536x1536.Idx) : ∃ pc ∈ L5 x0, y ∈ pc.1.set := View.cover_of_tiled (L5 x0) S256x1536.size (by rfl) y
theorem cover6 (x0 : Vec F S1536x1536 .bf16) (y : S1536x1.Idx) : ∃ pc ∈ L6 x0, y ∈ pc.1.set := View.cover_of_tiled (L6 x0) S256x1.size (by rfl) y
theorem coverP (x0 : Vec F S1536x1536 .bf16) (y : S1536x1536.Idx) : ∃ pc ∈ LP x0, y ∈ pc.1.set := View.cover_of_tiled (LP x0) S256x1536.size (by rfl) y
theorem coverX (x0 : Vec F S1536x1536 .bf16) (y : S1536x128.Idx) : ∃ pc ∈ LX x0, y ∈ pc.1.set := View.cover_of_tiled (LX x0) S256x128.size (by rfl) y
theorem cover4 (x1 : Vec F S1280x768 .i8) (x2 : Vec F S1280x48 .i32) (x3 : Vec F S1x1280 .f32) (xp : Vec F S1536x1536 .fp8e4m3) (xs : Vec F S1536x128 .f32)
    (y : S1536x1280.Idx) : ∃ pc ∈ L4 x1 x2 x3 xp xs, y ∈ pc.1.set := View.cover_of_tiled (L4 x1 x2 x3 xp xs) S1536x128.size (by rfl) y

/-- The codes the first point leaves. -/
def codesA (x0 : Vec F S1536x1536 .bf16) : Vec F S1536x1536 .fp8e4m3 := View.canon (L5 x0)
/-- The scales the first point leaves. -/
def scaleA (x0 : Vec F S1536x1536 .bf16) : Vec F S1536x1 .f32 := View.canon (L6 x0)
/-- The permuted codes the first point leaves. -/
def permA (x0 : Vec F S1536x1536 .bf16) : Vec F S1536x1536 .fp8e4m3 := View.canon (LP x0)
/-- The repeated scales the first point leaves. -/
def xsA (x0 : Vec F S1536x1536 .bf16) : Vec F S1536x128 .f32 := View.canon (LX x0)
/-- The block of the product a point leaves. -/
def blockOf (x1 : Vec F S1280x768 .i8) (x2 : Vec F S1280x48 .i32) (x3 : Vec F S1x1280 .f32) (xp : Vec F S1536x1536 .fp8e4m3) (xs : Vec F S1536x128 .f32) : Vec F S1536x1280 .bf16 :=
  View.canon (L4 x1 x2 x3 xp xs)

variable (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole)

theorem runA_L6 (hc0 : cond0_0 i) (x0 : Vec F S1536x1536 .bf16) (x1 : Vec F S1280x768 .i8) (x2 : Vec F S1280x48 .i32) (x3 : Vec F S1x1280 .f32) : (runA c i arg1 harg1 arg2 harg2 arg3 harg3 arg4 harg4 arg5 harg5 arg6 harg6 arg7 harg7 arg8 harg8 arg9 harg9 hc0 x0 x1 x2 x3).2.2.1 = L6 x0 := by
  rw [show (runA c i arg1 harg1 arg2 harg2 arg3 harg3 arg4 harg4 arg5 harg5 arg6 harg6 arg7 harg7 arg8 harg8 arg9 harg9 hc0 x0 x1 x2 x3).2.2.1 = L6 (arg1.view.read (Elt F) (harg1.unread x0)) from rfl, harg1.read_unread]

theorem runA_L5 (hc0 : cond0_0 i) (x0 : Vec F S1536x1536 .bf16) (x1 : Vec F S1280x768 .i8) (x2 : Vec F S1280x48 .i32) (x3 : Vec F S1x1280 .f32) : (runA c i arg1 harg1 arg2 harg2 arg3 harg3 arg4 harg4 arg5 harg5 arg6 harg6 arg7 harg7 arg8 harg8 arg9 harg9 hc0 x0 x1 x2 x3).2.1 = L5 x0 := by
  rw [show (runA c i arg1 harg1 arg2 harg2 arg3 harg3 arg4 harg4 arg5 harg5 arg6 harg6 arg7 harg7 arg8 harg8 arg9 harg9 hc0 x0 x1 x2 x3).2.1 = L5 (arg1.view.read (Elt F) (harg1.unread x0)) from rfl, harg1.read_unread]

theorem runA_LP (hc0 : cond0_0 i) (x0 : Vec F S1536x1536 .bf16) (x1 : Vec F S1280x768 .i8) (x2 : Vec F S1280x48 .i32) (x3 : Vec F S1x1280 .f32) : (runA c i arg1 harg1 arg2 harg2 arg3 harg3 arg4 harg4 arg5 harg5 arg6 harg6 arg7 harg7 arg8 harg8 arg9 harg9 hc0 x0 x1 x2 x3).2.2.2.1 = LP x0 := by
  rw [show (runA c i arg1 harg1 arg2 harg2 arg3 harg3 arg4 harg4 arg5 harg5 arg6 harg6 arg7 harg7 arg8 harg8 arg9 harg9 hc0 x0 x1 x2 x3).2.2.2.1 = LP (arg1.view.read (Elt F) (harg1.unread x0)) from rfl, harg1.read_unread]

theorem runA_LX (hc0 : cond0_0 i) (x0 : Vec F S1536x1536 .bf16) (x1 : Vec F S1280x768 .i8) (x2 : Vec F S1280x48 .i32) (x3 : Vec F S1x1280 .f32) : (runA c i arg1 harg1 arg2 harg2 arg3 harg3 arg4 harg4 arg5 harg5 arg6 harg6 arg7 harg7 arg8 harg8 arg9 harg9 hc0 x0 x1 x2 x3).2.2.2.2.1 = LX x0 := by
  rw [show (runA c i arg1 harg1 arg2 harg2 arg3 harg3 arg4 harg4 arg5 harg5 arg6 harg6 arg7 harg7 arg8 harg8 arg9 harg9 hc0 x0 x1 x2 x3).2.2.2.2.1 = LX (arg1.view.read (Elt F) (harg1.unread x0)) from rfl, harg1.read_unread]

theorem runA_L4 (hc0 : cond0_0 i) (x0 : Vec F S1536x1536 .bf16) (x1 : Vec F S1280x768 .i8) (x2 : Vec F S1280x48 .i32) (x3 : Vec F S1x1280 .f32) : (runA c i arg1 harg1 arg2 harg2 arg3 harg3 arg4 harg4 arg5 harg5 arg6 harg6 arg7 harg7 arg8 harg8 arg9 harg9 hc0 x0 x1 x2 x3).1 = L4 x1 x2 x3 (permA x0) (xsA x0) := by
  rw [show (runA c i arg1 harg1 arg2 harg2 arg3 harg3 arg4 harg4 arg5 harg5 arg6 harg6 arg7 harg7 arg8 harg8 arg9 harg9 hc0 x0 x1 x2 x3).1 = L4 (arg2.view.read (Elt F) (harg2.unread x1)) (arg3.view.read (Elt F) (harg3.unread x2)) (arg4.view.read (Elt F) (harg4.unread x3))
    (arg8.view.read (Elt F) (arg8.view.writes (Elt F) arg8.view.junk (LP (arg1.view.read (Elt F) (harg1.unread x0)))))
    (arg9.view.read (Elt F) (arg9.view.writes (Elt F) arg9.view.junk (LX (arg1.view.read (Elt F) (harg1.unread x0))))) from rfl,
    harg1.read_unread, harg2.read_unread, harg3.read_unread, harg4.read_unread, View.read_writes_junk_eq_canon, View.read_writes_junk_eq_canon]
  rfl

theorem runB_L4 (hc0 : ¬ cond0_0 i) (x0 : Vec F S1536x1536 .bf16) (x1 : Vec F S1280x768 .i8) (x2 : Vec F S1280x48 .i32) (x3 : Vec F S1x1280 .f32) (d5 : Vec F S1536x1536 .fp8e4m3) (d6 : Vec F S1536x1 .f32) (xp : Vec F S1536x1536 .fp8e4m3) (xs : Vec F S1536x128 .f32) :
    (runB c i arg1 harg1 arg2 harg2 arg3 harg3 arg4 harg4 arg5 harg5 arg6 harg6 arg7 harg7 arg8 harg8 arg9 harg9 hc0 x0 x1 x2 x3 d5 d6 xp xs).1 = L4 x1 x2 x3 xp xs := by
  rw [show (runB c i arg1 harg1 arg2 harg2 arg3 harg3 arg4 harg4 arg5 harg5 arg6 harg6 arg7 harg7 arg8 harg8 arg9 harg9 hc0 x0 x1 x2 x3 d5 d6 xp xs).1 = L4 (arg2.view.read (Elt F) (harg2.unread x1)) (arg3.view.read (Elt F) (harg3.unread x2)) (arg4.view.read (Elt F) (harg4.unread x3))
    (arg8.view.read (Elt F) (harg8.unread xp)) (arg9.view.read (Elt F) (harg9.unread xs)) from rfl,
    harg2.read_unread, harg3.read_unread, harg4.read_unread, harg8.read_unread, harg9.read_unread]

end Cert.KernelIdeal.Body

end
-- ==== Proof.Runs.lean ====
module

public import proofs.«01_k».proof.Proof.Outs

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer whose pieces cover it is owned at what the pieces leave. -/
theorem owns_of_writes {S : Shape} {ty : EltTy} (c : Dev nD) (arg : Memref sig .tc .vmem S ty) (L : List (View.Piece (Elt F) S ty))
    (hc : ∀ y : S.Idx, ∃ pc ∈ L, y ∈ pc.1.set) :
    (iprop(∃ f, arg.view.loc (c : Thread nD τ) ↦[arg.view.set]{fullShare} arg.view.writes (Elt F) f L) : sProp 𝕄)
      ⊢ owns (c : Thread nD τ) arg fullShare (View.canon L) := by
  unfold owns
  iintro ⟨%f, H⟩
  iexists _; isplitr
  swap; · iexact H
  ipureintro
  exact View.read_writes_eq_canon _ _ _ hc

theorem codesA_eq (x0 : Vec F S1536x1536 .bf16) : View.canon (L5 x0) = codesA x0 := rfl
theorem scaleA_eq (x0 : Vec F S1536x1536 .bf16) : View.canon (L6 x0) = scaleA x0 := rfl
theorem permA_eq (x0 : Vec F S1536x1536 .bf16) : View.canon (LP x0) = permA x0 := rfl
theorem xsA_eq (x0 : Vec F S1536x1536 .bf16) : View.canon (LX x0) = xsA x0 := rfl
theorem blockOf_eq (x1 : Vec F S1280x768 .i8) (x2 : Vec F S1280x48 .i32) (x3 : Vec F S1x1280 .f32) (xp : Vec F S1536x1536 .fp8e4m3) (xs : Vec F S1536x128 .f32) :
    View.canon (L4 x1 x2 x3 xp xs) = blockOf x1 x2 x3 xp xs := rfl

/-- A fact about the lists a run finds is the fact about the lists they equal. -/
theorem of_found5 {α β γ δ ε : Type} {P : α → β → γ → δ → ε → Prop} (r : Σ' (a : α) (b : β) (g : γ) (d : δ), { e : ε // P a b g d e })
    {a : α} {b : β} {g : γ} {d : δ} {e : ε} (ha : r.1 = a) (hb : r.2.1 = b) (hg : r.2.2.1 = g) (hd : r.2.2.2.1 = d) (he : r.2.2.2.2.1 = e) :
    P a b g d e := by
  subst ha hb hg hd he
  exact r.2.2.2.2.2

theorem of_found1 {α : Type} {P : α → Prop} (r : { e : α // P e }) {e : α} (he : r.1 = e) : P e := by
  subst he
  exact r.2

set_option maxHeartbeats 4000000 in
/-- The first point's run, its lists named. -/
theorem runA_found (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole) (hc0 : cond0_0 i)
    (x0 : Vec F S1536x1536 .bf16) (x1 : Vec F S1280x768 .i8) (x2 : Vec F S1280x48 .i32) (x3 : Vec F S1x1280 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f (L4 x1 x2 x3 (permA x0) (xsA x0))) ∗ (∃ f, arg6.view.loc (c : Thread nD τ) ↦[arg6.view.set]{fullShare} arg6.view.writes (Elt F) f (L5 x0)) ∗ (∃ f, arg7.view.loc (c : Thread nD τ) ↦[arg7.view.set]{fullShare} arg7.view.writes (Elt F) f (L6 x0)) ∗ (∃ f, arg8.view.loc (c : Thread nD τ) ↦[arg8.view.set]{fullShare} arg8.view.writes (Elt F) f (LP x0)) ∗ (∃ f, arg9.view.loc (c : Thread nD τ) ↦[arg9.view.set]{fullShare} arg9.view.writes (Elt F) f (LX x0))) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9) K :=
  of_found5 (runA c i arg1 harg1 arg2 harg2 arg3 harg3 arg4 harg4 arg5 harg5 arg6 harg6 arg7 harg7 arg8 harg8 arg9 harg9 hc0 x0 x1 x2 x3) (runA_L4 c i arg1 harg1 arg2 harg2 arg3 harg3 arg4 harg4 arg5 harg5 arg6 harg6 arg7 harg7 arg8 harg8 arg9 harg9 hc0 x0 x1 x2 x3) (runA_L5 c i arg1 harg1 arg2 harg2 arg3 harg3 arg4 harg4 arg5 harg5 arg6 harg6 arg7 harg7 arg8 harg8 arg9 harg9 hc0 x0 x1 x2 x3) (runA_L6 c i arg1 harg1 arg2 harg2 arg3 harg3 arg4 harg4 arg5 harg5 arg6 harg6 arg7 harg7 arg8 harg8 arg9 harg9 hc0 x0 x1 x2 x3) (runA_LP c i arg1 harg1 arg2 harg2 arg3 harg3 arg4 harg4 arg5 harg5 arg6 harg6 arg7 harg7 arg8 harg8 arg9 harg9 hc0 x0 x1 x2 x3) (runA_LX c i arg1 harg1 arg2 harg2 arg3 harg3 arg4 harg4 arg5 harg5 arg6 harg6 arg7 harg7 arg8 harg8 arg9 harg9 hc0 x0 x1 x2 x3)

set_option maxHeartbeats 4000000 in
/-- A later point's run, its list named. -/
theorem runB_found (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole) (hc0 : ¬ cond0_0 i)
    (x0 : Vec F S1536x1536 .bf16) (x1 : Vec F S1280x768 .i8) (x2 : Vec F S1280x48 .i32) (x3 : Vec F S1x1280 .f32) (d5 : Vec F S1536x1536 .fp8e4m3) (d6 : Vec F S1536x1 .f32) (xp : Vec F S1536x1536 .fp8e4m3) (xs : Vec F S1536x128 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ owns (c : Thread nD τ) arg8 fullShare xp ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f (L4 x1 x2 x3 xp xs)) ∗ owns (c : Thread nD τ) arg6 fullShare d5 ∗ owns (c : Thread nD τ) arg7 fullShare d6 ∗ owns (c : Thread nD τ) arg8 fullShare xp ∗ owns (c : Thread nD τ) arg9 fullShare xs) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9) K :=
  of_found1 (runB c i arg1 harg1 arg2 harg2 arg3 harg3 arg4 harg4 arg5 harg5 arg6 harg6 arg7 harg7 arg8 harg8 arg9 harg9 hc0 x0 x1 x2 x3 d5 d6 xp xs) (runB_L4 c i arg1 harg1 arg2 harg2 arg3 harg3 arg4 harg4 arg5 harg5 arg6 harg6 arg7 harg7 arg8 harg8 arg9 harg9 hc0 x0 x1 x2 x3 d5 d6 xp xs)

set_option maxHeartbeats 4000000 in
/-- The first point, every buffer owned at its contents. -/
theorem bodyA (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole) (hc0 : cond0_0 i)
    (x0 : Vec F S1536x1536 .bf16) (x1 : Vec F S1280x768 .i8) (x2 : Vec F S1280x48 .i32) (x3 : Vec F S1x1280 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockOf x1 x2 x3 (permA x0) (xsA x0)) ∗ owns (c : Thread nD τ) arg6 fullShare (codesA x0) ∗ owns (c : Thread nD τ) arg7 fullShare (scaleA x0) ∗ owns (c : Thread nD τ) arg8 fullShare (permA x0) ∗ owns (c : Thread nD τ) arg9 fullShare (xsA x0)) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9) K := by
  intro E K
  iintro ⟨H0, H1, H2, H3, H4, H5, H6, HS0, HS1, Hk⟩
  iapply (runA_found c i arg1 harg1 arg2 harg2 arg3 harg3 arg4 harg4 arg5 harg5 arg6 harg6 arg7 harg7 arg8 harg8 arg9 harg9 hc0 x0 x1 x2 x3 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  rw [← blockOf_eq, ← codesA_eq, ← scaleA_eq, ← permA_eq, ← xsA_eq]
  iapply Hk
  isplitl [H0]; · iexact H0
  isplitl [H1]; · iexact H1
  isplitl [H2]; · iexact H2
  isplitl [H3]; · iexact H3
  isplitl [H4]
  · iapply (owns_of_writes c arg5 _ (cover4 x1 x2 x3 _ _)); iexact H4
  isplitl [H5]
  · iapply (owns_of_writes c arg6 _ (cover5 x0)); iexact H5
  isplitl [H6]
  · iapply (owns_of_writes c arg7 _ (cover6 x0)); iexact H6
  isplitl [HS0]
  · iapply (owns_of_writes c arg8 _ (coverP x0)); iexact HS0
  iapply (owns_of_writes c arg9 _ (coverX x0)); iexact HS1

set_option maxHeartbeats 4000000 in
/-- A later point, every buffer owned at its contents. -/
theorem bodyB (c : Dev nD) (i : grid0.Coords) (arg1 : Memref sig .tc .vmem S1536x1536 .bf16) (harg1 : arg1.IsWhole) (arg2 : Memref sig .tc .vmem S1280x768 .i8) (harg2 : arg2.IsWhole) (arg3 : Memref sig .tc .vmem S1280x48 .i32) (harg3 : arg3.IsWhole) (arg4 : Memref sig .tc .vmem S1x1280 .f32) (harg4 : arg4.IsWhole) (arg5 : Memref sig .tc .vmem S1536x1280 .bf16) (harg5 : arg5.IsWhole) (arg6 : Memref sig .tc .vmem S1536x1536 .fp8e4m3) (harg6 : arg6.IsWhole) (arg7 : Memref sig .tc .vmem S1536x1 .f32) (harg7 : arg7.IsWhole) (arg8 : Memref sig .tc .vmem S1536x1536 .fp8e4m3) (harg8 : arg8.IsWhole) (arg9 : Memref sig .tc .vmem S1536x128 .f32) (harg9 : arg9.IsWhole) (hc0 : ¬ cond0_0 i)
    (x0 : Vec F S1536x1536 .bf16) (x1 : Vec F S1280x768 .i8) (x2 : Vec F S1280x48 .i32) (x3 : Vec F S1x1280 .f32) (d5 : Vec F S1536x1536 .fp8e4m3) (d6 : Vec F S1536x1 .f32) (xp : Vec F S1536x1536 .fp8e4m3) (xs : Vec F S1536x128 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ owns (c : Thread nD τ) arg8 fullShare xp ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockOf x1 x2 x3 xp xs) ∗ owns (c : Thread nD τ) arg6 fullShare d5 ∗ owns (c : Thread nD τ) arg7 fullShare d6 ∗ owns (c : Thread nD τ) arg8 fullShare xp ∗ owns (c : Thread nD τ) arg9 fullShare xs) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9) K := by
  intro E K
  iintro ⟨H0, H1, H2, H3, H4, H5, H6, HS0, HS1, Hk⟩
  iapply (runB_found c i arg1 harg1 arg2 harg2 arg3 harg3 arg4 harg4 arg5 harg5 arg6 harg6 arg7 harg7 arg8 harg8 arg9 harg9 hc0 x0 x1 x2 x3 d5 d6 xp xs E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  rw [← blockOf_eq]
  iapply Hk
  isplitl [H0]; · iexact H0
  isplitl [H1]; · iexact H1
  isplitl [H2]; · iexact H2
  isplitl [H3]; · iexact H3
  isplitl [H4]
  · iapply (owns_of_writes c arg5 _ (cover4 x1 x2 x3 _ _)); iexact H4
  isplitl [H5]; · iexact H5
  isplitl [H6]; · iexact H6
  isplitl [HS0]; · iexact HS0
  iexact HS1

end Cert.KernelIdeal.Body

end
-- ==== Proof.Body.lean ====
module

public import proofs.«01_k».proof.Proof.Runs
public import Idealize.ShloMosaic.Lib.Claim
public import Idealize.ShloMosaic.Lib.Pipeline.TableIdle

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] codesA scaleA permA xsA blockOf

/-! ## The proof data -/

/-- The first point. -/
def pt0 : Fin cfg0.N := ⟨0, by rw [show cfg0.N = 7 from N_0]; omega⟩

/-- The activations, as the first point's window stages them. -/
def actX (c : Dev nD) : Vec F S1536x1536 .bf16 := iblk m c 0 pt0

/-- Between points the scratch holds the permuted codes and the repeated scales; before the first point, anything. -/
def PhiT (c : Dev nD) (t : Fin (cfg0.N + 1)) : sProp 𝕄 :=
  if t.val = 0 then Pipeline.ΦA spec0 c
  else iprop(iprop(owns (c : Thread nD τ) scM0_0 fullShare (permA (actX m c)) ∗ owns (c : Thread nD τ) scM0_1 fullShare (xsA (actX m c))) ∗ (∃ r, prngReg c r))

/-- What every window's buffer holds after the body at a point: an input its block, the product's window its tile, the
    codes' and the scales' windows what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOf (iblk m c 1 t) (iblk m c 2 t) (iblk m c 3 t) (permA (actX m c)) (xsA (actX m c))
    | ⟨5, _⟩ => codesA (actX m c)
    | ⟨6, _⟩ => scaleA (actX m c)
  Φ t := PhiT m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blockOf (iblk m c 1 t) (iblk m c 2 t) (iblk m c 3 t) (permA (actX m c)) (xsA (actX m c)) := by dsimp only [dats]
theorem after0_5 (c : Dev nD) (t : Fin cfg0.N) : (dats m 0 c).after 5 t = codesA (actX m c) := by dsimp only [dats]
theorem after0_6 (c : Dev nD) (t : Fin cfg0.N) : (dats m 0 c).after 6 t = scaleA (actX m c) := by dsimp only [dats]
theorem Phi_eq (c : Dev nD) (t : Fin (cfg0.N + 1)) : (dats m 0 c).Φ t = PhiT m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Where the codes' and the scales' windows hold what the first point stored -/

theorem idle0_5 : ∀ t : Fin cfg0.N, cfg0.idle 5 (grid0.coords t) = !decide (t.val % 7 = 0) := fun t => by
  show (!(k0_cond1 (grid0.coords t) == 1#1)) = _
  have h := hcond0_0 t
  unfold cond0_0 at h
  by_cases h0 : t.val % 7 = 0
  · rw [h.mpr h0]; simp [h0]
  · simp [h0, h]

theorem idle0_6 : ∀ t : Fin cfg0.N, cfg0.idle 6 (grid0.coords t) = !decide (t.val % 7 = 0) := idle0_5

theorem fresh0_5 (n : ℕ) (h1 : n ≠ 0) (h2 : n < 7) : cfg0.fresh 5 n = false := by
  rw [cfg0.fresh_tab 5 (fun n => n == 0 || n == 7) rfl (fun t => by
    have ht : t.val < 7 := lt_of_lt_of_eq t.isLt N_0
    have hf : (cfg0.win 5).flush t = decide (t.val % 7 = 6) := by rw [Bool.eq_iff_iff, flush0_5 t]; simp
    have hi : cfg0.idle 5 (cfg0.grid.coords t) = !decide (t.val % 7 = 0) := idle0_5 t
    rw [hf, hi]
    generalize t.val = k at ht ⊢
    revert k; decide) n (by rw [show cfg0.N = 7 from N_0]; omega)]
  have a : (n == 0) = false := by simpa using h1
  have b : (n == 7) = false := by simp; omega
  simp [a, b]

theorem fresh0_6 (n : ℕ) (h1 : n ≠ 0) (h2 : n < 7) : cfg0.fresh 6 n = false := by
  rw [cfg0.fresh_tab 6 (fun n => n == 0 || n == 7) rfl (fun t => by
    have ht : t.val < 7 := lt_of_lt_of_eq t.isLt N_0
    have hf : (cfg0.win 6).flush t = decide (t.val % 7 = 6) := by rw [Bool.eq_iff_iff, flush0_6 t]; simp
    have hi : cfg0.idle 6 (cfg0.grid.coords t) = !decide (t.val % 7 = 0) := idle0_6 t
    rw [hf, hi]
    generalize t.val = k at ht ⊢
    revert k; decide) n (by rw [show cfg0.N = 7 from N_0]; omega)]
  have a : (n == 0) = false := by simpa using h1
  have b : (n == 7) = false := by simp; omega
  simp [a, b]

theorem before0_5 (c : Dev nD) (t : Fin cfg0.N) (ht : t.val ≠ 0) (d) : (dats m 0 c).before 5 t d = codesA (actX m c) := by
  rw [(dats m 0 c).before_out_traj 5 rfl (fun _ _ => rfl) (fun s _ _ _ => by rw [after0_5, after0_5]) t.val t rfl d,
    fresh0_5 t.val ht (lt_of_lt_of_eq t.isLt N_0), after0_5]
  simp only [Bool.false_eq_true, if_false]

theorem before0_6 (c : Dev nD) (t : Fin cfg0.N) (ht : t.val ≠ 0) (d) : (dats m 0 c).before 6 t d = scaleA (actX m c) := by
  rw [(dats m 0 c).before_out_traj 6 rfl (fun _ _ => rfl) (fun s _ _ _ => by rw [after0_6, after0_6]) t.val t rfl d,
    fresh0_6 t.val ht (lt_of_lt_of_eq t.isLt N_0), after0_6]
  simp only [Bool.false_eq_true, if_false]

/-- At a later point the codes' window is left as it was. -/
theorem leaves0_5 (c : Dev nD) (t : Fin cfg0.N) (ht : t.val ≠ 0) :
    owns (c : Thread nD τ) (ms0_5 t) fullShare (codesA (actX m c)) ⊢ ((dats m 0 c).leavesExact 5 t : sProp 𝕄) := by
  have hN : t.val < 7 := lt_of_lt_of_eq t.isLt N_0
  have hi : cfg0.idle 5 (cfg0.grid.coords t) = true := by rw [show cfg0.grid.coords t = grid0.coords t from rfl, idle0_5]; simp; omega
  by_cases h6 : t.val % 7 = 6
  · rw [show (dats m 0 c).leavesExact 5 t = owns (c : Thread nD τ) (ms0_5 t) fullShare ((dats m 0 c).after 5 t) from by
      unfold Dat.leavesExact; rw [hi, (flush0_5 t).mpr h6], after0_5]
  · rw [(dats m 0 c).leavesExact_idle 5 t hi (by rw [Bool.eq_false_iff, Ne, flush0_5 t]; exact h6)]
    iintro H
    iexists (codesA (actX m c))
    rw [before0_5 m c t ht]
    iexact H

/-- At a later point the scales' window is left as it was. -/
theorem leaves0_6 (c : Dev nD) (t : Fin cfg0.N) (ht : t.val ≠ 0) :
    owns (c : Thread nD τ) (ms0_6 t) fullShare (scaleA (actX m c)) ⊢ ((dats m 0 c).leavesExact 6 t : sProp 𝕄) := by
  have hN : t.val < 7 := lt_of_lt_of_eq t.isLt N_0
  have hi : cfg0.idle 6 (cfg0.grid.coords t) = true := by rw [show cfg0.grid.coords t = grid0.coords t from rfl, idle0_6]; simp; omega
  by_cases h6 : t.val % 7 = 6
  · rw [show (dats m 0 c).leavesExact 6 t = owns (c : Thread nD τ) (ms0_6 t) fullShare ((dats m 0 c).after 6 t) from by
      unfold Dat.leavesExact; rw [hi, (flush0_6 t).mpr h6], after0_6]
  · rw [(dats m 0 c).leavesExact_idle 6 t hi (by rw [Bool.eq_false_iff, Ne, flush0_6 t]; exact h6)]
    iintro H
    iexists (scaleA (actX m c))
    rw [before0_6 m c t ht]
    iexact H

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the first point by the first run, every later point by the second. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [Phi_eq, Phi_eq]
  have hN : t.val < 7 := lt_of_lt_of_eq t.isLt (show cfg0.N = 7 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  have hsucc : PhiT m c t.succ = iprop(iprop(owns (c : Thread nD τ) scM0_0 fullShare (permA (actX m c)) ∗ owns (c : Thread nD τ) scM0_1 fullShare (xsA (actX m c))) ∗ (∃ r, prngReg c r)) := by
    unfold PhiT; rw [if_neg (by simp)]
  rw [hsucc]
  by_cases h0 : t.val % 7 = 0
  · obtain rfl : t = pt0 := Fin.ext (by show t.val = 0; omega)
    have hi5 : cfg0.idle 5 (cfg0.grid.coords pt0) = false := by rw [show cfg0.grid.coords pt0 = grid0.coords pt0 from rfl, idle0_5]; rfl
    have hi6 : cfg0.idle 6 (cfg0.grid.coords pt0) = false := by rw [show cfg0.grid.coords pt0 = grid0.coords pt0 from rfl, idle0_6]; rfl
    rw [show (dats m 0 c).leavesExact 5 pt0 = owns (c : Thread nD τ) (ms0_5 pt0) fullShare ((dats m 0 c).after 5 pt0) from by
      unfold Dat.leavesExact; rw [hi5], after0_5]
    rw [show (dats m 0 c).leavesExact 6 pt0 = owns (c : Thread nD τ) (ms0_6 pt0) fullShare ((dats m 0 c).after 6 pt0) from by
      unfold Dat.leavesExact; rw [hi6], after0_6]
    rw [show PhiT m c pt0.castSucc = Pipeline.ΦA spec0 c from by unfold PhiT; rw [if_pos (by rfl)], PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (bodyA c (grid0.coords pt0) _ _ _ _ _ _ _ _ _ _ _ _ _ _ _ _ _ _ ((hcond0_0 pt0).mpr h0) (iblk m c 0 pt0) (iblk m c 1 pt0) (iblk m c 2 pt0) (iblk m c 3 pt0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have ht : t.val ≠ 0 := by omega
    rw [show PhiT m c t.castSucc = iprop(iprop(owns (c : Thread nD τ) scM0_0 fullShare (permA (actX m c)) ∗ owns (c : Thread nD τ) scM0_1 fullShare (xsA (actX m c))) ∗ (∃ r, prngReg c r)) from by
      unfold PhiT; rw [if_neg (by simpa using ht)]]
    simp only [before0_5 m c t ht, before0_6 m c t ht]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (bodyB c (grid0.coords t) _ _ _ _ _ _ _ _ _ _ _ _ _ _ _ _ _ _ (fun h => h0 ((hcond0_0 t).mp h)) (iblk m c 0 t) (iblk m c 1 t) (iblk m c 2 t) (iblk m c 3 t)
      (codesA (actX m c)) (scaleA (actX m c)) (permA (actX m c)) (xsA (actX m c)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (leaves0_5 m c t ht); iexact H5
    iapply (leaves0_6 m c t ht); iexact H6

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem Phi_in (c : Dev nD) : Pipeline.ΦA spec0 c ⊢ ((dats m 0 c).Φ 0 : sProp 𝕄) := by
  rw [Phi_eq, show PhiT m c 0 = Pipeline.ΦA spec0 c from by unfold PhiT; rw [if_pos (by rfl)]]

theorem Phi_out (c : Dev nD) : ((dats m 0 c).Φ (Fin.last cfg0.N) : sProp 𝕄) ⊢ Pipeline.ΦA spec0 c := by
  rw [Phi_eq, show PhiT m c (Fin.last cfg0.N) = iprop(iprop(owns (c : Thread nD τ) scM0_0 fullShare (permA (actX m c)) ∗ owns (c : Thread nD τ) scM0_1 fullShare (xsA (actX m c))) ∗ (∃ r, prngReg c r)) from by
    unfold PhiT; rw [if_neg (by rw [Fin.val_last, show cfg0.N = 7 from N_0]; omega)], PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The run, with every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- Every weakly fair execution terminates, every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Quant.lean ====
module

public import Idealize.ShloMosaic.PureOps.Ideal
public import Idealize.ShloMosaic.Lib.Pointwise
public import Idealize.ShloMosaic.Lib.IndicatorCount
public import Mathlib.Analysis.SpecialFunctions.Log.Basic
public import Mathlib.Analysis.SpecialFunctions.Pow.Real

@[expose] public section

set_option maxRecDepth 16384

noncomputable section

/-! The quantiser's exponent, as a number: what the kernel counts and what the reference takes from a logarithm. -/

namespace Cert.Quant

open Idealize.ShloMosaic

/-- The fields of a word that holds only an exponent. -/
theorem fields (n : Fin 256) :
    (IntOp.shli .vector (BitVec.ofNat 32 n.val) 23#32).extractLsb' 31 1 = 0#1 ∧
    ((IntOp.shli .vector (BitVec.ofNat 32 n.val) 23#32).extractLsb' 23 8).toNat = n.val ∧
    ((IntOp.shli .vector (BitVec.ofNat 32 n.val) 23#32).extractLsb' 0 23).toNat = 0 := by
  revert n; decide +kernel

theorem f32_ieee (b : BitVec 32) : Ideal.ofBits .f32 b = Ideal.ieee 8 23 b := by
  unfold Ideal.ofBits; rfl

/-- A word without a sign, with an exponent field short of all ones, reads as its significand times its power of two. -/
theorem ieee_of (b : BitVec 32) (n f : ℕ) (h1 : 1 ≤ n) (h2 : n ≤ 254) (ha : b.extractLsb' 31 1 = 0#1)
    (hb : (b.extractLsb' 23 8).toNat = n) (hc : (b.extractLsb' 0 23).toNat = f) :
    Ideal.ofBits .f32 b = ((((2 ^ 23 + f : ℕ) : ℝ) * (2 : ℝ) ^ ((n : ℤ) - 150) : ℝ) : EReal) := by
  rw [f32_ieee]
  unfold Ideal.ieee
  dsimp only
  rw [show (8 + 23 : ℕ) = 31 from rfl, ha, hb, hc]
  have n1 : ¬ n = 2 ^ 8 - 1 := by norm_num; omega
  have n2 : ¬ n = 0 := by omega
  rw [if_neg n1, if_neg n2, if_neg (by decide)]
  have : (n : ℤ) - (2 ^ (8 - 1) - 1) - (23 : ℕ) = (n : ℤ) - 150 := by norm_num; ring
  rw [this, one_mul]

theorem ieee_top (b : BitVec 32) (ha : b.extractLsb' 31 1 = 0#1)
    (hb : (b.extractLsb' 23 8).toNat = 255) (hc : (b.extractLsb' 0 23).toNat = 0) :
    Ideal.ofBits .f32 b = ⊤ := by
  rw [f32_ieee]
  unfold Ideal.ieee
  dsimp only
  rw [show (8 + 23 : ℕ) = 31 from rfl, ha, hb, hc]
  have n1 : 255 = 2 ^ 8 - 1 := by norm_num
  rw [if_pos n1, if_pos rfl, if_neg (by decide)]

/-- A word that holds only an exponent is a power of two. -/
theorem bits_pow (n : ℕ) (h1 : 1 ≤ n) (h2 : n ≤ 254) :
    Ideal.ofBits .f32 (IntOp.shli .vector (BitVec.ofNat 32 n) 23#32) = (((2 : ℝ) ^ ((n : ℤ) - 127) : ℝ) : EReal) := by
  obtain ⟨ha, hb, hc⟩ := fields ⟨n, by omega⟩
  have e : (((2 ^ 23 + 0 : ℕ) : ℝ) * (2 : ℝ) ^ ((n : ℤ) - 150)) = (2 : ℝ) ^ ((n : ℤ) - 127) := by
    have : ((n : ℤ) - 127) = 23 + ((n : ℤ) - 150) := by ring
    rw [this, zpow_add₀ (by norm_num)]
    norm_num
  rw [ieee_of _ n 0 h1 h2 ha hb hc]
  exact congrArg _ e

/-- The all-ones exponent is infinite. -/
theorem bits_top : Ideal.ofBits .f32 (IntOp.shli .vector (BitVec.ofNat 32 255) 23#32) = ⊤ := by
  obtain ⟨ha, hb, hc⟩ := fields ⟨255, by omega⟩
  exact ieee_top _ ha hb hc

/-- The empty word is zero. -/
theorem bits_zero : Ideal.ofBits .f32 (IntOp.shli .vector (BitVec.ofNat 32 0) 23#32) = 0 := by
  rw [show IntOp.shli .vector (BitVec.ofNat 32 0) 23#32 = 0#32 by decide +kernel]
  exact Ideal.ofBits_zero .f32

/-- The floor of the binary logarithm. -/
def lg (r : ℝ) : ℤ := ⌊Real.log r / Real.log 2⌋

/-- A power of two is at most a number just when its exponent is at most the floor of the logarithm. -/
theorem zpow_le_iff (r : ℝ) (h : 0 < r) (k : ℤ) : (2 : ℝ) ^ k ≤ r ↔ k ≤ lg r := by
  have h2 : 0 < Real.log 2 := Real.log_pos (by norm_num)
  unfold lg
  rw [Int.le_floor, le_div_iff₀ h2, ← Real.log_zpow, Real.log_le_log_iff (by positivity) h]

/-- The exponent of a magnitude: one above the floor of its logarithm, at most 126, and zero below the smallest normal
    number and at infinity. -/
def expN (v : EReal) : ℤ :=
  if v < (((2 : ℝ) ^ (-126 : ℤ) : ℝ) : EReal) ∨ v = ⊤ then 0 else min (lg v.toReal + 1) 126

/-- A magnitude at or above the smallest normal number, and finite, lies in the binade of its logarithm. -/
theorem binade (v : EReal) (h1 : ¬ v < (((2 : ℝ) ^ (-126 : ℤ) : ℝ) : EReal)) (h2 : v ≠ ⊤) :
    ∃ r : ℝ, v = r ∧ 0 < r ∧ -126 ≤ lg r ∧ (∀ k : ℤ, (2 : ℝ) ^ k ≤ r ↔ k ≤ lg r) := by
  have hb : v ≠ ⊥ := by
    rintro rfl
    exact h1 (EReal.bot_lt_coe _)
  lift v to ℝ using ⟨h2, hb⟩
  have hr : (2 : ℝ) ^ (-126 : ℤ) ≤ v := by
    have := not_lt.1 h1
    exact_mod_cast this
  have h0 : (0 : ℝ) < v := lt_of_lt_of_le (by positivity) hr
  have key := zpow_le_iff v h0
  exact ⟨v, rfl, h0, (key _).1 hr, key⟩

/-- The exponent is between -125 and 126. -/
theorem expN_bounds (v : EReal) : -125 ≤ expN v ∧ expN v ≤ 126 := by
  unfold expN
  split
  · omega
  · rename_i h
    rw [not_or, not_lt] at h
    obtain ⟨r, rfl, h0, hl, -⟩ := binade v (not_lt.2 h.1) h.2
    rw [EReal.toReal_coe]
    omega

/-- The power of two in one lane of the count. -/
def pw (l : Fin 256) : EReal :=
  Ideal.ofBits .f32 (IntOp.shli .vector (Scalar.select (IntOp.cmpi .sgt (BitVec.ofNat 32 l.val) 252#32) 255#32 (BitVec.ofNat 32 l.val)) 23#32)

theorem pw_zero : pw 0 = 0 := bits_zero
theorem sel_lo (l : Fin 256) (h : l.val ≤ 252) :
    Scalar.select (IntOp.cmpi .sgt (BitVec.ofNat 32 l.val) 252#32) 255#32 (BitVec.ofNat 32 l.val) = BitVec.ofNat 32 l.val := by
  revert l; decide +kernel
theorem sel_hi (l : Fin 256) (h : 252 < l.val) :
    Scalar.select (IntOp.cmpi .sgt (BitVec.ofNat 32 l.val) 252#32) 255#32 (BitVec.ofNat 32 l.val) = BitVec.ofNat 32 255 := by
  revert l; decide +kernel
theorem pw_mid (l : Fin 256) (h0 : 1 ≤ l.val) (h : l.val ≤ 252) : pw l = (((2 : ℝ) ^ ((l.val : ℤ) - 127) : ℝ) : EReal) := by
  unfold pw; rw [sel_lo l h, bits_pow _ h0 (by omega)]
theorem pw_top (l : Fin 256) (h : 252 < l.val) : pw l = ⊤ := by
  unfold pw; rw [sel_hi l h, bits_top]

/-- How many lanes a magnitude reaches. -/
def cnt (v : EReal) : ℕ := (Finset.univ.filter fun l : Fin 256 => pw l ≤ v).card

theorem card_le (n : ℕ) (h : n < 256) : (Finset.univ.filter fun l : Fin 256 => l.val ≤ n).card = n + 1 := by
  have : (Finset.univ.filter fun l : Fin 256 => l.val ≤ n) = Finset.Iic (⟨n, h⟩ : Fin 256) := by
    ext l; simp [Fin.le_def]
  rw [this, Fin.card_Iic]

theorem cnt_eq (v : EReal) (n : ℕ) (hn : n < 256) (h : ∀ l : Fin 256, pw l ≤ v ↔ l.val ≤ n) : cnt v = n + 1 := by
  unfold cnt
  rw [← card_le n hn]
  congr 1
  ext l; simp [h l]

/-- Below the least normal number the count is one, which is field zero. -/
theorem cnt_small (v : EReal) (h0 : 0 ≤ v) (h : v < (((2 : ℝ) ^ (-126 : ℤ) : ℝ) : EReal)) : cnt v = 1 := by
  refine cnt_eq v 0 (by omega) fun l => ?_
  constructor
  · intro hl
    by_contra hc
    have h1 : 1 ≤ l.val := by omega
    by_cases h2 : l.val ≤ 252
    · rw [pw_mid l h1 h2] at hl
      have h3 := lt_of_le_of_lt hl h
      rw [EReal.coe_lt_coe_iff] at h3
      have := (zpow_lt_zpow_iff_right₀ (by norm_num : (1 : ℝ) < 2)).1 h3
      omega
    · rw [pw_top l (by omega), top_le_iff] at hl
      rw [hl] at h
      exact not_top_lt h
  · intro hl
    have : l = 0 := Fin.ext (by simpa using hl)
    rw [this, pw_zero]; exact h0

/-- At infinity the count is 256, which is field 255. -/
theorem cnt_top : cnt ⊤ = 256 := by
  refine cnt_eq ⊤ 255 (by omega) fun l => ?_
  simp only [le_top, true_iff]
  omega

/-- In between the count is the biased exponent and one, up to the cap. -/
theorem cnt_mid (v : EReal) (h1 : ¬ v < (((2 : ℝ) ^ (-126 : ℤ) : ℝ) : EReal)) (h2 : v ≠ ⊤) :
    cnt v = (min (lg v.toReal + 127) 252).toNat + 1 := by
  obtain ⟨r, rfl, h0, hl, key⟩ := binade v h1 h2
  rw [EReal.toReal_coe]
  refine cnt_eq _ _ (by omega) fun l => ?_
  by_cases ha : 1 ≤ l.val
  · by_cases hb : l.val ≤ 252
    · rw [pw_mid l ha hb, EReal.coe_le_coe_iff, key]
      omega
    · rw [pw_top l (by omega), top_le_iff]
      constructor
      · intro h; exact absurd h h2
      · intro h; omega
  · have : l = 0 := Fin.ext (by simp; omega)
    subst this
    rw [pw_zero]
    constructor
    · intro _; exact Nat.zero_le _
    · intro _; exact_mod_cast h0.le

/-- The exponent the kernel selects from its count. -/
theorem exp_word (v : EReal) (h0 : 0 ≤ v) :
    Scalar.select (IntOp.ori (IntOp.cmpi .eq (IntOp.subi (BitVec.ofNat 32 (cnt v)) 1#32) 0#32)
        (IntOp.cmpi .eq (IntOp.subi (BitVec.ofNat 32 (cnt v)) 1#32) 255#32)) 0#32
      (IntOp.subi (IntOp.subi (BitVec.ofNat 32 (cnt v)) 1#32) 126#32) = BitVec.ofInt 32 (expN v) := by
  by_cases h1 : v < (((2 : ℝ) ^ (-126 : ℤ) : ℝ) : EReal)
  · rw [cnt_small v h0 h1, expN, if_pos (Or.inl h1)]
    decide
  · by_cases h2 : v = ⊤
    · rw [h2, cnt_top, expN, if_pos (Or.inr rfl)]
      decide
    · rw [cnt_mid v h1 h2, expN, if_neg (by tauto)]
      obtain ⟨r, rfl, hr, hl, -⟩ := binade v h1 h2
      rw [EReal.toReal_coe]
      have table : ∀ n : Fin 253, 1 ≤ n.val → Scalar.select (IntOp.ori (IntOp.cmpi .eq (IntOp.subi (BitVec.ofNat 32 (n.val + 1)) 1#32) 0#32)
          (IntOp.cmpi .eq (IntOp.subi (BitVec.ofNat 32 (n.val + 1)) 1#32) 255#32)) 0#32
          (IntOp.subi (IntOp.subi (BitVec.ofNat 32 (n.val + 1)) 1#32) 126#32) = BitVec.ofInt 32 ((n.val : ℤ) - 126) := by decide +kernel
      have := table ⟨(min (lg r + 127) 252).toNat, by omega⟩ (by dsimp only; omega)
      rw [this]
      congr 1
      dsimp only
      omega

/-- The scale word is a power of two. -/
theorem scale_word (e : ℤ) (h1 : -125 ≤ e) (h2 : e ≤ 126) :
    Ideal.ofBits .f32 (IntOp.shli .vector (IntOp.addi (BitVec.ofInt 32 e) 127#32) 23#32) = (((2 : ℝ) ^ e : ℝ) : EReal) := by
  have table : ∀ n : Fin 252, IntOp.addi (BitVec.ofInt 32 ((n.val : ℤ) - 125)) 127#32 = BitVec.ofNat 32 (n.val + 2) := by decide +kernel
  have := table ⟨(e + 125).toNat, by omega⟩
  dsimp only at this
  rw [show (((e + 125).toNat : ℕ) : ℤ) - 125 = e by omega] at this
  rw [this, bits_pow _ (by omega) (by omega)]
  congr 3
  omega

/-- The inverse scale word is the inverse power of two. -/
theorem inv_word (e : ℤ) (h1 : -125 ≤ e) (h2 : e ≤ 126) :
    Ideal.ofBits .f32 (IntOp.shli .vector (IntOp.subi 127#32 (BitVec.ofInt 32 e)) 23#32) = (((2 : ℝ) ^ (-e) : ℝ) : EReal) := by
  have table : ∀ n : Fin 252, IntOp.subi 127#32 (BitVec.ofInt 32 ((n.val : ℤ) - 125)) = BitVec.ofNat 32 (252 - n.val) := by decide +kernel
  have := table ⟨(e + 125).toNat, by omega⟩
  dsimp only at this
  rw [show (((e + 125).toNat : ℕ) : ℤ) - 125 = e by omega] at this
  rw [this, bits_pow _ (by omega) (by omega)]
  congr 3
  omega

/-- The word of the least normal number. -/
theorem bits_min_normal : Ideal.ofBits .f32 0x00800000#32 = (((2 : ℝ) ^ (-126 : ℤ) : ℝ) : EReal) := by
  have := bits_pow 1 (by omega) (by omega)
  rw [show IntOp.shli .vector (BitVec.ofNat 32 1) 23#32 = 0x00800000#32 by decide +kernel] at this
  rw [this]; norm_num
/-- The word of two. -/
theorem bits_two : Ideal.ofBits .f32 0x40000000#32 = ((2 : ℝ) : EReal) := by
  have := bits_pow 128 (by omega) (by omega)
  rw [show IntOp.shli .vector (BitVec.ofNat 32 128) 23#32 = 0x40000000#32 by decide +kernel] at this
  rw [this]; norm_num
/-- The word of one. -/
theorem bits_one : Ideal.ofBits .f32 0x3F800000#32 = ((1 : ℝ) : EReal) := by
  have := bits_pow 127 (by omega) (by omega)
  rw [show IntOp.shli .vector (BitVec.ofNat 32 127) 23#32 = 0x3F800000#32 by decide +kernel] at this
  rw [this]; norm_num
/-- The word of infinity. -/
theorem bits_inf : Ideal.ofBits .f32 0x7F800000#32 = ⊤ := by
  rw [← bits_top]
  congr 1
/-- The word of 126. -/
theorem bits_126 : Ideal.ofBits .f32 0x42FC0000#32 = ((126 : ℝ) : EReal) := by
  rw [ieee_of _ 133 8126464 (by norm_num) (by norm_num) (by decide +kernel) (by decide +kernel) (by decide +kernel)]
  congr 1
  norm_num

/-- The exponent the reference takes from a logarithm. -/
theorem exp_log (v : EReal) :
    Scalar.select (IntOp.andi (Ideal.cmp .oge v (((2 : ℝ) ^ (-126 : ℤ) : ℝ) : EReal)) (Ideal.cmp .olt v ⊤))
      (min (Ideal.liftRound Int.floor (Ideal.div (Ideal.log v) (Ideal.log ((2 : ℝ) : EReal))) + ((1 : ℝ) : EReal)) ((126 : ℝ) : EReal)) 0
    = (((expN v : ℤ) : ℝ) : EReal) := by
  by_cases h1 : v < (((2 : ℝ) ^ (-126 : ℤ) : ℝ) : EReal)
  · rw [expN, if_pos (Or.inl h1)]
    rw [show Ideal.cmp .oge v (((2 : ℝ) ^ (-126 : ℤ) : ℝ) : EReal) = 0#1 by
      unfold Ideal.cmp; dsimp only; rw [decide_eq_false (not_le.2 h1)]; rfl]
    rw [show IntOp.andi 0#1 (Ideal.cmp .olt v ⊤) = 0#1 from BitVec.zero_and]
    simp [Scalar.select]
  · by_cases h2 : v = ⊤
    · rw [h2, expN, if_pos (Or.inr rfl)]
      rw [show Ideal.cmp .olt (⊤ : EReal) ⊤ = 0#1 by unfold Ideal.cmp; dsimp only; rw [decide_eq_false (lt_irrefl _)]; rfl]
      rw [show IntOp.andi (Ideal.cmp .oge (⊤ : EReal) (((2 : ℝ) ^ (-126 : ℤ) : ℝ) : EReal)) 0#1 = 0#1 from BitVec.and_zero]
      simp [Scalar.select]
    · rw [show Ideal.cmp .oge v (((2 : ℝ) ^ (-126 : ℤ) : ℝ) : EReal) = 1#1 by
          unfold Ideal.cmp; dsimp only; rw [decide_eq_true (not_lt.1 h1)]; rfl,
        show Ideal.cmp .olt v ⊤ = 1#1 by unfold Ideal.cmp; dsimp only; rw [decide_eq_true (lt_top_iff_ne_top.2 h2)]; rfl,
        show IntOp.andi 1#1 1#1 = 1#1 from rfl, expN, if_neg (by tauto)]
      obtain ⟨r, rfl, hr, hl, key⟩ := binade v h1 h2
      rw [EReal.toReal_coe]
      rw [show Ideal.log (r : EReal) = ((Real.log r : ℝ) : EReal) from if_neg (not_le.2 hr),
        show Ideal.log ((2 : ℝ) : EReal) = ((Real.log 2 : ℝ) : EReal) from if_neg (by norm_num)]
      have hlog2 : Real.log 2 ≠ 0 := (Real.log_pos (by norm_num)).ne'
      have hdiv : Ideal.div ((Real.log r : ℝ) : EReal) ((Real.log 2 : ℝ) : EReal) = ((Real.log r / Real.log 2 : ℝ) : EReal) := by
        unfold Ideal.div
        rw [if_neg (by exact_mod_cast hlog2), div_eq_mul_inv, EReal.coe_mul, EReal.coe_inv]
      have hfl : ⌊Real.log r / Real.log 2⌋ = lg r := rfl
      rw [hdiv]
      show min ((((⌊Real.log r / Real.log 2⌋ : ℤ) : ℝ) : EReal) + ((1 : ℝ) : EReal)) ((126 : ℝ) : EReal) = _
      rw [hfl]
      push_cast
      rfl

/-- Two to the exponent, as the reference states it. -/
theorem pow_exp (e : ℤ) : Ideal.pow ((2 : ℝ) : EReal) (((e : ℤ) : ℝ) : EReal) = (((2 : ℝ) ^ e : ℝ) : EReal) := by
  show ((Real.rpow 2 e : ℝ) : EReal) = _
  rw [Real.rpow_eq_pow, Real.rpow_intCast]
/-- Two to a negated exponent. -/
theorem pow_neg_exp (e : ℤ) : Ideal.pow ((2 : ℝ) : EReal) (-(((e : ℤ) : ℝ) : EReal)) = (((2 : ℝ) ^ (-e) : ℝ) : EReal) := by
  have := pow_exp (-e)
  push_cast at this
  exact this

end Cert.Quant

end
-- ==== Proof.Bytes.lean ====
module

public import Idealize.ShloMosaic.PureOps.Float
public import Mathlib.Tactic.IntervalCases
public import Mathlib.Tactic.FinCases

@[expose] public section

set_option maxRecDepth 16384

/-! The word arithmetic of the expansion, one byte at a time. -/

namespace Cert.Bytes

open Idealize.ShloMosaic

/-- One byte of a word. -/
def byte (x : BitVec 32) (B : Fin 4) : BitVec 8 := x.extractLsb' (8 * B.val) 8

/-- A byte mask's word from its four bits. -/
def mk (a b c d : Bool) : BitVec 32 := (BitVec.ofBool a).setWidth 32 ||| (BitVec.ofBool b).setWidth 32 <<< 8 ||| (BitVec.ofBool c).setWidth 32 <<< 16 ||| (BitVec.ofBool d).setWidth 32 <<< 24

theorem shli_lt (x : BitVec 32) (n : ℕ) (h : n < 32) : IntOp.shli .vector x (BitVec.ofNat 32 n) = x <<< n := by
  have e : (BitVec.ofNat 32 n).toNat = n := by rw [BitVec.toNat_ofNat]; exact Nat.mod_eq_of_lt (by omega)
  unfold IntOp.shli
  rw [if_pos (by rw [e]; exact h)]
  show x <<< (BitVec.ofNat 32 n).toNat = _
  rw [e]
theorem shrui_lt (x : BitVec 32) (n : ℕ) (h : n < 32) : IntOp.shrui .vector x (BitVec.ofNat 32 n) = x >>> n := by
  have e : (BitVec.ofNat 32 n).toNat = n := by rw [BitVec.toNat_ofNat]; exact Nat.mod_eq_of_lt (by omega)
  unfold IntOp.shrui
  rw [if_pos (by rw [e]; exact h)]
  show x >>> (BitVec.ofNat 32 n).toNat = _
  rw [e]

/-- One bit of every byte, spread over the byte. -/
def bm (x : BitVec 32) (b : BitVec 32) : BitVec 32 :=
  IntOp.subi (IntOp.shli .vector (IntOp.andi (IntOp.shrui .vector x b) 16843009#32) 8#32) (IntOp.andi (IntOp.shrui .vector x b) 16843009#32)

theorem bits_mk (x : BitVec 32) (b : ℕ) (hb : b < 8) :
    (x >>> b) &&& 16843009#32 = mk (x.getLsbD b) (x.getLsbD (8 + b)) (x.getLsbD (16 + b)) (x.getLsbD (24 + b)) := by
  apply BitVec.eq_of_getLsbD_eq
  intro i hi
  have h01 : ∀ i : Fin 32, (16843009#32).getLsbD i.val = decide (i.val % 8 = 0) := by decide
  rw [BitVec.getLsbD_and, h01 ⟨i, hi⟩, BitVec.getLsbD_ushiftRight]
  interval_cases i <;> simp [mk, Nat.add_comm]

theorem mk_spread : ∀ (a b c d : Bool) (B : Fin 4), byte ((mk a b c d <<< 8) - mk a b c d) B = if ![a, b, c, d] B then 255#8 else 0#8 := by
  decide +kernel

theorem byte_bm (x : BitVec 32) (b : ℕ) (hb : b < 8) (B : Fin 4) :
    byte (bm x (BitVec.ofNat 32 b)) B = if x.getLsbD (8 * B.val + b) then 255#8 else 0#8 := by
  have e : bm x (BitVec.ofNat 32 b) = (((x >>> b) &&& 16843009#32) <<< 8) - ((x >>> b) &&& 16843009#32) := by
    unfold bm
    rw [shrui_lt x b (by omega), shli_lt _ 8 (by omega)]
    rfl
  rw [e, bits_mk x b hb, mk_spread]
  fin_cases B <;> simp <;> rfl

theorem byte_and (x y : BitVec 32) (B : Fin 4) : byte (IntOp.andi x y) B = byte x B &&& byte y B := BitVec.extractLsb'_and
theorem byte_or (x y : BitVec 32) (B : Fin 4) : byte (IntOp.ori x y) B = byte x B ||| byte y B := BitVec.extractLsb'_or
theorem byte_xor (x y : BitVec 32) (B : Fin 4) : byte (IntOp.xori x y) B = byte x B ^^^ byte y B := BitVec.extractLsb'_xor

/-- The second kept values, zero where both positions agree. -/
def sndS (s n : BitVec 32) : BitVec 32 := IntOp.andi s (IntOp.ori (IntOp.xori (bm n 0#32) (bm n 4#32)) (IntOp.xori (bm n 1#32) (bm n 5#32)))
/-- The values that land on position 0. -/
def at0S (f s n : BitVec 32) : BitVec 32 :=
  IntOp.ori (IntOp.xori (IntOp.xori f (IntOp.andi f (bm n 1#32))) (IntOp.andi (IntOp.xori f (IntOp.andi f (bm n 1#32))) (bm n 0#32)))
    (IntOp.xori (IntOp.xori s (IntOp.andi s (bm n 5#32))) (IntOp.andi (IntOp.xori s (IntOp.andi s (bm n 5#32))) (bm n 4#32)))
/-- The values that land on position 1. -/
def at1S (f s n : BitVec 32) : BitVec 32 :=
  IntOp.ori (IntOp.andi (IntOp.xori f (IntOp.andi f (bm n 1#32))) (bm n 0#32)) (IntOp.andi (IntOp.xori s (IntOp.andi s (bm n 5#32))) (bm n 4#32))
/-- The values that land on position 2. -/
def at2S (f s n : BitVec 32) : BitVec 32 :=
  IntOp.ori (IntOp.xori (IntOp.andi f (bm n 1#32)) (IntOp.andi (IntOp.andi f (bm n 1#32)) (bm n 0#32)))
    (IntOp.xori (IntOp.andi s (bm n 5#32)) (IntOp.andi (IntOp.andi s (bm n 5#32)) (bm n 4#32)))
/-- The values that land on position 3. -/
def at3S (f s n : BitVec 32) : BitVec 32 :=
  IntOp.ori (IntOp.andi (IntOp.andi f (bm n 1#32)) (bm n 0#32)) (IntOp.andi (IntOp.andi s (bm n 5#32)) (bm n 4#32))

/-- A two-bit position from its two bits. -/
def pos (a b : Bool) : ℕ := a.toNat + 2 * b.toNat

/-- The byte that a position takes: the first value where its position is the first, else the second where it is the second,
    else zero. -/
def put (p : ℕ) (q0 q1 : ℕ) (a b : BitVec 8) : BitVec 8 := if q0 = p then a else if q1 = p then b else 0#8

theorem masked (x : BitVec 8) : x &&& 255#8 = x := BitVec.and_allOnes
theorem masked0 (x : BitVec 8) : x &&& 0#8 = 0#8 := BitVec.and_zero

theorem at0_byte (f s n : BitVec 32) (B : Fin 4) : byte (at0S f (sndS s n) n) B
    = put 0 (pos (n.getLsbD (8 * B.val)) (n.getLsbD (8 * B.val + 1))) (pos (n.getLsbD (8 * B.val + 4)) (n.getLsbD (8 * B.val + 5))) (byte f B) (byte s B) := by
  unfold at0S sndS put
  have h0 := byte_bm n 0 (by omega) B
  have h1 := byte_bm n 1 (by omega) B
  have h4 := byte_bm n 4 (by omega) B
  have h5 := byte_bm n 5 (by omega) B
  simp only [byte_and, byte_or, byte_xor, h0, h1, h4, h5, Nat.add_zero]
  generalize byte f B = F
  generalize byte s B = S
  generalize n.getLsbD (8 * B.val) = a
  generalize n.getLsbD (8 * B.val + 1) = b
  generalize n.getLsbD (8 * B.val + 4) = c
  generalize n.getLsbD (8 * B.val + 5) = d
  cases a <;> cases b <;> cases c <;> cases d <;> simp [pos, masked, masked0]

theorem at1_byte (f s n : BitVec 32) (B : Fin 4) : byte (at1S f (sndS s n) n) B
    = put 1 (pos (n.getLsbD (8 * B.val)) (n.getLsbD (8 * B.val + 1))) (pos (n.getLsbD (8 * B.val + 4)) (n.getLsbD (8 * B.val + 5))) (byte f B) (byte s B) := by
  unfold at1S sndS put
  have h0 := byte_bm n 0 (by omega) B
  have h1 := byte_bm n 1 (by omega) B
  have h4 := byte_bm n 4 (by omega) B
  have h5 := byte_bm n 5 (by omega) B
  simp only [byte_and, byte_or, byte_xor, h0, h1, h4, h5, Nat.add_zero]
  generalize byte f B = F
  generalize byte s B = S
  generalize n.getLsbD (8 * B.val) = a
  generalize n.getLsbD (8 * B.val + 1) = b
  generalize n.getLsbD (8 * B.val + 4) = c
  generalize n.getLsbD (8 * B.val + 5) = d
  cases a <;> cases b <;> cases c <;> cases d <;> simp [pos, masked, masked0]

theorem at2_byte (f s n : BitVec 32) (B : Fin 4) : byte (at2S f (sndS s n) n) B
    = put 2 (pos (n.getLsbD (8 * B.val)) (n.getLsbD (8 * B.val + 1))) (pos (n.getLsbD (8 * B.val + 4)) (n.getLsbD (8 * B.val + 5))) (byte f B) (byte s B) := by
  unfold at2S sndS put
  have h0 := byte_bm n 0 (by omega) B
  have h1 := byte_bm n 1 (by omega) B
  have h4 := byte_bm n 4 (by omega) B
  have h5 := byte_bm n 5 (by omega) B
  simp only [byte_and, byte_or, byte_xor, h0, h1, h4, h5, Nat.add_zero]
  generalize byte f B = F
  generalize byte s B = S
  generalize n.getLsbD (8 * B.val) = a
  generalize n.getLsbD (8 * B.val + 1) = b
  generalize n.getLsbD (8 * B.val + 4) = c
  generalize n.getLsbD (8 * B.val + 5) = d
  cases a <;> cases b <;> cases c <;> cases d <;> simp [pos, masked, masked0]

theorem at3_byte (f s n : BitVec 32) (B : Fin 4) : byte (at3S f (sndS s n) n) B
    = put 3 (pos (n.getLsbD (8 * B.val)) (n.getLsbD (8 * B.val + 1))) (pos (n.getLsbD (8 * B.val + 4)) (n.getLsbD (8 * B.val + 5))) (byte f B) (byte s B) := by
  unfold at3S sndS put
  have h0 := byte_bm n 0 (by omega) B
  have h1 := byte_bm n 1 (by omega) B
  have h4 := byte_bm n 4 (by omega) B
  have h5 := byte_bm n 5 (by omega) B
  simp only [byte_and, byte_or, byte_xor, h0, h1, h4, h5, Nat.add_zero]
  generalize byte f B = F
  generalize byte s B = S
  generalize n.getLsbD (8 * B.val) = a
  generalize n.getLsbD (8 * B.val + 1) = b
  generalize n.getLsbD (8 * B.val + 4) = c
  generalize n.getLsbD (8 * B.val + 5) = d
  cases a <;> cases b <;> cases c <;> cases d <;> simp [pos, masked, masked0]

/-! The index words, transposed: byte `B` of the word `h` holds four bits of each position field of index word `B`. -/

def lo2S (a c : BitVec 32) : BitVec 32 := IntOp.ori (IntOp.andi a 16711935#32) (IntOp.shli .vector (IntOp.andi c 16711935#32) 8#32)
def hi2S (a c : BitVec 32) : BitVec 32 := IntOp.ori (IntOp.andi (IntOp.shrui .vector a 8#32) 16711935#32) (IntOp.andi c (-16711936#32))
def loHalfS (a c : BitVec 32) : BitVec 32 := IntOp.ori (IntOp.andi a 65535#32) (IntOp.shli .vector c 16#32)
def hiHalfS (a c : BitVec 32) : BitVec 32 := IntOp.ori (IntOp.shrui .vector a 16#32) (IntOp.andi c (-65536#32))
def loNibS (p q : BitVec 32) : BitVec 32 := IntOp.ori (IntOp.andi p 252645135#32) (IntOp.shli .vector (IntOp.andi q 252645135#32) 4#32)
def hiNibS (p q : BitVec 32) : BitVec 32 := IntOp.ori (IntOp.andi (IntOp.shrui .vector p 4#32) 252645135#32) (IntOp.andi q (-252645136#32))
def uS (h : Fin 4) (i0 i1 i2 i3 : BitVec 32) : BitVec 32 :=
  ![loNibS (loHalfS (lo2S i0 i1) (lo2S i2 i3)) (hiHalfS (lo2S i0 i1) (lo2S i2 i3)), hiNibS (loHalfS (lo2S i0 i1) (lo2S i2 i3)) (hiHalfS (lo2S i0 i1) (lo2S i2 i3)),
    loNibS (loHalfS (hi2S i0 i1) (hi2S i2 i3)) (hiHalfS (hi2S i0 i1) (hi2S i2 i3)), hiNibS (loHalfS (hi2S i0 i1) (hi2S i2 i3)) (hiHalfS (hi2S i0 i1) (hi2S i2 i3))] h

theorem mask_m8 : ∀ i : Fin 32, (16711935#32).getLsbD i.val = decide (i.val / 8 % 2 = 0) := by decide
theorem mask_n8 : ∀ i : Fin 32, (-16711936#32).getLsbD i.val = decide (i.val / 8 % 2 = 1) := by decide
theorem mask_m16 : ∀ i : Fin 32, (65535#32).getLsbD i.val = decide (i.val < 16) := by decide
theorem mask_n16 : ∀ i : Fin 32, (-65536#32).getLsbD i.val = decide (16 ≤ i.val) := by decide
theorem mask_m4 : ∀ i : Fin 32, (252645135#32).getLsbD i.val = decide (i.val / 4 % 2 = 0) := by decide
theorem mask_n4 : ∀ i : Fin 32, (-252645136#32).getLsbD i.val = decide (i.val / 4 % 2 = 1) := by decide

theorem lo2S_bit (a c : BitVec 32) (i : ℕ) (hi : i < 32) :
    (lo2S a c).getLsbD i = if i / 8 % 2 = 0 then a.getLsbD i else c.getLsbD (i - 8) := by
  unfold lo2S
  rw [shli_lt _ 8 (by omega)]
  show (a &&& 16711935#32 ||| (c &&& 16711935#32) <<< 8).getLsbD i = _
  rw [BitVec.getLsbD_or, BitVec.getLsbD_and, mask_m8 ⟨i, hi⟩, BitVec.getLsbD_shiftLeft, BitVec.getLsbD_and, mask_m8 ⟨i - 8, by omega⟩]
  dsimp only
  split
  · rename_i h
    have : i < 8 ∨ ¬ ((i - 8) / 8 % 2 = 0) := by omega
    rcases this with h' | h' <;> simp [h, h']
  · rename_i h
    have h1 : ¬ i < 8 := by omega
    have h2 : (i - 8) / 8 % 2 = 0 := by omega
    simp [h, h1, h2, hi]

theorem hi2S_bit (a c : BitVec 32) (i : ℕ) (hi : i < 32) :
    (hi2S a c).getLsbD i = if i / 8 % 2 = 0 then a.getLsbD (i + 8) else c.getLsbD i := by
  unfold hi2S
  rw [shrui_lt _ 8 (by omega)]
  show (a >>> 8 &&& 16711935#32 ||| (c &&& -16711936#32)).getLsbD i = _
  rw [BitVec.getLsbD_or, BitVec.getLsbD_and, mask_m8 ⟨i, hi⟩, BitVec.getLsbD_ushiftRight, BitVec.getLsbD_and, mask_n8 ⟨i, hi⟩]
  dsimp only
  split
  · rename_i h
    simp [h, Nat.add_comm]
  · rename_i h
    have h1 : i / 8 % 2 = 1 := by omega
    simp [h1]

theorem loHalfS_bit (a c : BitVec 32) (i : ℕ) (hi : i < 32) :
    (loHalfS a c).getLsbD i = if i < 16 then a.getLsbD i else c.getLsbD (i - 16) := by
  unfold loHalfS
  rw [shli_lt _ 16 (by omega)]
  show (a &&& 65535#32 ||| c <<< 16).getLsbD i = _
  rw [BitVec.getLsbD_or, BitVec.getLsbD_and, mask_m16 ⟨i, hi⟩, BitVec.getLsbD_shiftLeft]
  dsimp only
  split <;> rename_i h <;> simp [h, hi]

theorem hiHalfS_bit (a c : BitVec 32) (i : ℕ) (hi : i < 32) :
    (hiHalfS a c).getLsbD i = if i < 16 then a.getLsbD (i + 16) else c.getLsbD i := by
  unfold hiHalfS
  rw [shrui_lt _ 16 (by omega)]
  show (a >>> 16 ||| (c &&& -65536#32)).getLsbD i = _
  rw [BitVec.getLsbD_or, BitVec.getLsbD_and, mask_n16 ⟨i, hi⟩, BitVec.getLsbD_ushiftRight]
  dsimp only
  split
  · rename_i h
    have h1 : ¬ 16 ≤ i := by omega
    simp [h1, Nat.add_comm]
  · rename_i h
    have h1 : 16 ≤ i := by omega
    simp [h1, BitVec.getLsbD_of_ge a (16 + i) (by omega)]

theorem loNibS_bit (p q : BitVec 32) (i : ℕ) (hi : i < 32) :
    (loNibS p q).getLsbD i = if i / 4 % 2 = 0 then p.getLsbD i else q.getLsbD (i - 4) := by
  unfold loNibS
  rw [shli_lt _ 4 (by omega)]
  show (p &&& 252645135#32 ||| (q &&& 252645135#32) <<< 4).getLsbD i = _
  rw [BitVec.getLsbD_or, BitVec.getLsbD_and, mask_m4 ⟨i, hi⟩, BitVec.getLsbD_shiftLeft, BitVec.getLsbD_and, mask_m4 ⟨i - 4, by omega⟩]
  dsimp only
  split
  · rename_i h
    have : i < 4 ∨ ¬ ((i - 4) / 4 % 2 = 0) := by omega
    rcases this with h' | h' <;> simp [h, h']
  · rename_i h
    have h1 : ¬ i < 4 := by omega
    have h2 : (i - 4) / 4 % 2 = 0 := by omega
    simp [h, h1, h2, hi]

theorem hiNibS_bit (p q : BitVec 32) (i : ℕ) (hi : i < 32) :
    (hiNibS p q).getLsbD i = if i / 4 % 2 = 0 then p.getLsbD (i + 4) else q.getLsbD i := by
  unfold hiNibS
  rw [shrui_lt _ 4 (by omega)]
  show (p >>> 4 &&& 252645135#32 ||| (q &&& -252645136#32)).getLsbD i = _
  rw [BitVec.getLsbD_or, BitVec.getLsbD_and, mask_m4 ⟨i, hi⟩, BitVec.getLsbD_ushiftRight, BitVec.getLsbD_and, mask_n4 ⟨i, hi⟩]
  dsimp only
  split
  · rename_i h
    simp [h, Nat.add_comm]
  · rename_i h
    have h1 : i / 4 % 2 = 1 := by omega
    simp [h1]

/-- The low four bits of every byte are bits of the first position field. -/
theorem uS_lo (h B : Fin 4) (t : Fin 4) (i0 i1 i2 i3 : BitVec 32) :
    (uS h i0 i1 i2 i3).getLsbD (8 * B.val + t.val) = (![i0, i1, i2, i3] B).getLsbD (4 * h.val + t.val) := by
  fin_cases h <;> fin_cases B <;> fin_cases t <;>
    simp [-BitVec.getLsbD_eq_getElem, uS, loNibS_bit, hiNibS_bit, loHalfS_bit, hiHalfS_bit, lo2S_bit, hi2S_bit]

/-- The high four bits of every byte are bits of the second position field. -/
theorem uS_hi (h B : Fin 4) (t : Fin 4) (i0 i1 i2 i3 : BitVec 32) :
    (uS h i0 i1 i2 i3).getLsbD (8 * B.val + (4 + t.val)) = (![i0, i1, i2, i3] B).getLsbD (16 + 4 * h.val + t.val) := by
  fin_cases h <;> fin_cases B <;> fin_cases t <;>
    simp [-BitVec.getLsbD_eq_getElem, uS, loNibS_bit, hiNibS_bit, loHalfS_bit, hiHalfS_bit, lo2S_bit, hi2S_bit]

/-- The position fields of one group, read from the shifted nibbles. -/
theorem nib_bits (j : Fin 8) (B : Fin 4) (i0 i1 i2 i3 : BitVec 32) (e : Fin 2) :
    ((uS ⟨j.val / 2, by omega⟩ i0 i1 i2 i3) >>> (2 * (j.val % 2))).getLsbD (8 * B.val + e.val) = (![i0, i1, i2, i3] B).getLsbD (2 * j.val + e.val)
    ∧ ((uS ⟨j.val / 2, by omega⟩ i0 i1 i2 i3) >>> (2 * (j.val % 2))).getLsbD (8 * B.val + (4 + e.val)) = (![i0, i1, i2, i3] B).getLsbD (16 + 2 * j.val + e.val) := by
  have a := uS_lo ⟨j.val / 2, by omega⟩ B ⟨2 * (j.val % 2) + e.val, by omega⟩ i0 i1 i2 i3
  have b := uS_hi ⟨j.val / 2, by omega⟩ B ⟨2 * (j.val % 2) + e.val, by omega⟩ i0 i1 i2 i3
  dsimp only at a b
  constructor
  · rw [BitVec.getLsbD_ushiftRight, show 2 * (j.val % 2) + (8 * B.val + e.val) = 8 * B.val + (2 * (j.val % 2) + e.val) by omega, a]
    congr 1; omega
  · rw [BitVec.getLsbD_ushiftRight, show 2 * (j.val % 2) + (8 * B.val + (4 + e.val)) = 8 * B.val + (4 + (2 * (j.val % 2) + e.val)) by omega, b]
    congr 1; omega

/-- The dense byte of one column: of the group's two kept values, the one whose position the column is. -/
def denseByte (word : BitVec 32) (j p : ℕ) (a b : BitVec 8) : BitVec 8 :=
  put p (pos (word.getLsbD (2 * j)) (word.getLsbD (2 * j + 1))) (pos (word.getLsbD (16 + 2 * j)) (word.getLsbD (16 + 2 * j + 1))) a b

end Cert.Bytes

end
-- ==== Proof.Positions.lean ====
module

public import proofs.«01_k».proof.Proof.Bytes
public import Idealize.ShloMosaic.PureOps.Ideal

@[expose] public section

set_option maxRecDepth 16384

noncomputable section

/-! The dense weights of a row, and how a position is read out of an index word. -/

namespace Cert.Bytes

open Idealize.ShloMosaic

/-- A row's dense weight at a column, from the row's kept values and its index words. -/
def denseAt (v : Fin 768 → BitVec 8) (d : Fin 48 → BitVec 32) (k : Fin 1536) : EReal :=
  Ideal.ofBits .fp8e4m3 (denseByte (d ⟨k.val / 32, by omega⟩) (k.val / 4 % 8) (k.val % 4) (v ⟨16 * (k.val / 32) + 2 * (k.val / 4 % 8), by omega⟩)
    (v ⟨16 * (k.val / 32) + 2 * (k.val / 4 % 8) + 1, by omega⟩))

/-- The low two bits of a word. -/
theorem and_three (x : BitVec 32) : x &&& 3#32 = BitVec.ofNat 32 (pos (x.getLsbD 0) (x.getLsbD 1)) := by
  apply BitVec.eq_of_getLsbD_eq
  intro i hi
  have h3 : ∀ i : Fin 32, (3#32).getLsbD i.val = decide (i.val < 2) := by decide
  have ht : ∀ (a b : Bool) (i : Fin 32), (BitVec.ofNat 32 (pos a b)).getLsbD i.val = if i.val = 0 then a else if i.val = 1 then b else false := by
    decide
  rw [BitVec.getLsbD_and, h3 ⟨i, hi⟩, ht _ _ ⟨i, hi⟩]
  dsimp only
  split
  · next h => subst h; simp [-BitVec.getLsbD_eq_getElem]
  · split
    · next h => subst h; simp [-BitVec.getLsbD_eq_getElem]
    · have : ¬ i < 2 := by omega
      simp [this]

theorem pos_eq : ∀ (a b : Bool) (q : Fin 4),
    IntOp.cmpi .eq (BitVec.ofNat 32 (pos a b)) (BitVec.ofNat 32 q.val) = BitVec.ofBool (decide (pos a b = q.val)) := by decide

/-- A position's bits, compared with a position. -/
theorem pos_at (w y : BitVec 32) (s : ℕ) (hs : s ≤ 30) (hy : y.toNat = s) (q : Fin 4) :
    IntOp.cmpi .eq (IntOp.andi (IntOp.shrsi .host w y) 3#32) (BitVec.ofNat 32 q.val)
      = BitVec.ofBool (decide (pos (w.getLsbD s) (w.getLsbD (s + 1)) = q.val)) := by
  have e : IntOp.shrsi .host w y = w.sshiftRight s := by
    unfold IntOp.shrsi
    rw [if_pos (by omega), BitVec.sshiftRight_eq', hy]
  rw [e, show IntOp.andi (w.sshiftRight s) 3#32 = w.sshiftRight s &&& 3#32 from rfl, and_three, pos_eq]
  have b0 : (w.sshiftRight s).getLsbD 0 = w.getLsbD s := by
    rw [BitVec.getLsbD_sshiftRight]
    simp [-BitVec.getLsbD_eq_getElem, show s < 32 by omega]
  have b1 : (w.sshiftRight s).getLsbD 1 = w.getLsbD (s + 1) := by
    rw [BitVec.getLsbD_sshiftRight]
    simp [-BitVec.getLsbD_eq_getElem, show s + 1 < 32 by omega]
  rw [b0, b1]

theorem shift_lo : ∀ j : Fin 8, (IntOp.muli 2#32 (BitVec.ofNat 32 j.val)).toNat = 2 * j.val := by decide
theorem shift_hi : ∀ j : Fin 8, (IntOp.addi 16#32 (IntOp.muli 2#32 (BitVec.ofNat 32 j.val))).toNat = 16 + 2 * j.val := by decide

end Cert.Bytes

end
-- ==== Proof.Spec.lean ====
module

public import proofs.«01_k».proof.Proof.Quant
public import proofs.«01_k».proof.Proof.Positions
public import Idealize.ShloMosaic.Lib.Pipeline.ValueKit

@[expose] public section

set_option maxRecDepth 16384

noncomputable section

/-! The three results, as functions of the arguments. -/

namespace Cert.Quant

open Idealize.ShloMosaic

/-- The largest magnitude of a row over 448. -/
def rowV (f : Fin 1536 → EReal) : EReal := Finset.fold max ⊥ (fun k => max (f k) (-f k)) Finset.univ * Ideal.ofBits .f32 991054117#32

/-- The exponent of a row. -/
def rowE (f : Fin 1536 → EReal) : ℤ := expN (rowV f)

/-- The scale of a row. -/
def rowScale (f : Fin 1536 → EReal) : EReal := (((2 : ℝ) ^ rowE f : ℝ) : EReal)

/-- The code of an entry of a row. -/
def rowCode (f : Fin 1536 → EReal) (k : Fin 1536) : EReal :=
  min (Ideal.ofBits .f32 1138753536#32) (max (Ideal.ofBits .f32 3286237184#32) (f k * (((2 : ℝ) ^ (-rowE f) : ℝ) : EReal)))

/-- The bf16 word of minus infinity. -/
theorem bot_bf16 : Ideal.ofBits .bf16 65408#16 = ⊥ := by
  simp [Ideal.ofBits, Ideal.ieee]

/-- The f32 word of minus infinity. -/
theorem bot_f32 : Ideal.ofBits .f32 4286578688#32 = ⊥ := by
  simp [Ideal.ofBits, Ideal.ieee]

theorem pos_448 : 0 ≤ Ideal.ofBits .f32 991054117#32 := by
  rw [ieee_of _ 118 1198373 (by norm_num) (by norm_num) (by decide +kernel) (by decide +kernel) (by decide +kernel)]
  exact EReal.coe_nonneg.mpr (by positivity)

/-- The magnitude of a row is not negative. -/
theorem rowV_nonneg (f : Fin 1536 → EReal) : 0 ≤ rowV f := by
  refine mul_nonneg ?_ pos_448
  rw [Finset.le_fold_max]
  refine Or.inr ⟨0, Finset.mem_univ _, ?_⟩
  rcases le_total 0 (f 0) with h | h
  · exact h.trans (le_max_left _ _)
  · exact (EReal.neg_nonneg.mpr h).trans (le_max_right _ _)

end Cert.Quant

namespace Cert.Spec

open Idealize.ShloMosaic Cert.Quant Cert.Bytes

/-- A token's activations. -/
def row (x : FVec Ideal (⟨3, ![3, 512, 1536]⟩ : Shape) .bf16) (i k : Fin 1536) : EReal := x (ix3 ⟨i.val / 512, by omega⟩ ⟨i.val % 512, by omega⟩ k)

/-- The product. -/
def prod (x : FVec Ideal (⟨3, ![3, 512, 1536]⟩ : Shape) .bf16) (v : IVec (⟨2, ![8960, 768]⟩ : Shape) 8) (d : IVec (⟨2, ![8960, 48]⟩ : Shape) 32)
    (s : FVec Ideal (⟨1, ![8960]⟩ : Shape) .f32) : FVec Ideal (⟨2, ![1536, 8960]⟩ : Shape) .bf16 := fun j =>
  (∑ k, rowCode (row x (j 0)) k * denseAt (fun q => v (ix2 (j 1) q)) (fun q => d (ix2 (j 1) q)) k) * rowScale (row x (j 0)) * s (ix1 (j 1))

/-- The codes. -/
def codes (x : FVec Ideal (⟨3, ![3, 512, 1536]⟩ : Shape) .bf16) : FVec Ideal (⟨2, ![1536, 1536]⟩ : Shape) .fp8e4m3 := fun j => rowCode (row x (j 0)) (j 1)

/-- The scales. -/
def scales (x : FVec Ideal (⟨3, ![3, 512, 1536]⟩ : Shape) .bf16) : FVec Ideal (⟨2, ![1536, 1]⟩ : Shape) .f32 := fun j => rowScale (row x (j 0))

end Cert.Spec

end
-- ==== Proof.Rows.lean ====
module

public import proofs.«01_k».proof.Proof.Fun
public import proofs.«01_k».proof.Proof.Spec

@[expose] public section

set_option maxRecDepth 16384

noncomputable section

namespace Cert.KernelIdeal.Body

open Cert.KernelIdeal Cert.KernelIdeal.Gen Cert.Quant
open Idealize.ShloMosaic Idealize.ShloMosaic.TcCoe

/-- A row of a chunk. -/
def rowOf (x : Vec Ideal S256x1536 .bf16) (r : Fin 256) (k : Fin 1536) : EReal := x (ix2 r k)

/-- The magnitude of a row over 448. -/
theorem vOf_apply (x : Vec Ideal S256x1536 .bf16) (r : Fin 256) : vOf x (ix2 r 0) = rowV (rowOf x r) := by
  pointwise [vOf]
  rw [bot_bf16]
  rfl

/-- The complement of a comparison from below, as a bit. -/
theorem xori_lt_one (a b : EReal) : (IntOp.xori (BitVec.ofBool (decide (a < b))) 1#1 = 1#1) = (b ≤ a) := by
  by_cases h : a < b
  · rw [decide_eq_true h]; simp [not_le.2 h, IntOp.xori]
  · rw [decide_eq_false h]; simp [not_lt.1 h, IntOp.xori]

/-- The counted exponent field of a row. -/
theorem fieldOf_apply (v : FVec Ideal S256x1 .f32) (r : Fin 256) : fieldOf v (ix2 r 0) = IntOp.subi (BitVec.ofNat 32 (cnt (v (ix2 r 0)))) 1#32 := by
  pointwise [fieldOf, powers]
  refine (congrArg (IntOp.subi · 1#32)
    (IndicatorCount.fold_addi_setWidth_eq_card (fun l : Fin 256 => IntOp.xori (BitVec.ofBool (decide (v (ix2 r 0) < pw l))) 1#1) Finset.univ)).trans ?_
  simp only [xori_lt_one]
  rfl

/-- The scale of a row. -/
theorem scaleOf_apply (x : Vec Ideal S256x1536 .bf16) (r : Fin 256) : scaleOf x (ix2 r 0) = rowScale (rowOf x r) := by
  pointwise [scaleOf, expOf]
  rw [fieldOf_apply, vOf_apply, exp_word _ (rowV_nonneg _)]
  exact scale_word _ (expN_bounds _).1 (expN_bounds _).2

/-- The code of an entry. -/
theorem codesOf_apply (x : Vec Ideal S256x1536 .bf16) (r : Fin 256) (k : Fin 1536) : codesOf x (ix2 r k) = rowCode (rowOf x r) k := by
  pointwise [codesOf, invOf, expOf]
  rw [fieldOf_apply, vOf_apply, exp_word _ (rowV_nonneg _), inv_word _ (expN_bounds _).1 (expN_bounds _).2]
  rfl

/-- The repeated scale of a row. -/
theorem xsOf_apply (x : Vec Ideal S256x1536 .bf16) (r : Fin 256) (l : Fin 128) : xsOf x (ix2 r l) = rowScale (rowOf x r) := by
  rw [← scaleOf_apply]
  pointwise [xsOf]

end Cert.KernelIdeal.Body

end
-- ==== Proof.Lanes.lean ====
module

public import proofs.«01_k».proof.Proof.Fun
public import Idealize.ShloMosaic.Lib.Pointwise
public import Mathlib.Tactic.FinCases

@[expose] public section

set_option maxRecDepth 16384

noncomputable section

/-! The lane arithmetic of the kernel, lane by lane, and the permuted codes at an index. -/

namespace Cert.KernelIdeal.Body

open Cert.KernelIdeal Cert.KernelIdeal.Gen
open Idealize.ShloMosaic Idealize.ShloMosaic.TcCoe

/-- The remainder of one word, as the kernel forms it. -/
def pm (x c : BitVec 32) : BitVec 32 :=
  Scalar.select (IntOp.andi (IntOp.xori (IntOp.cmpi .slt (IntOp.remsi .vector x (Scalar.select (Scalar.cmpi .eq c 0#32) 1#32 c)) 0#32)
      (Scalar.cmpi .slt (Scalar.select (Scalar.cmpi .eq c 0#32) 1#32 c) 0#32))
      (IntOp.cmpi .ne (IntOp.remsi .vector x (Scalar.select (Scalar.cmpi .eq c 0#32) 1#32 c)) 0#32))
    (IntOp.addi (IntOp.remsi .vector x (Scalar.select (Scalar.cmpi .eq c 0#32) 1#32 c)) (Scalar.select (Scalar.cmpi .eq c 0#32) 1#32 c))
    (IntOp.remsi .vector x (Scalar.select (Scalar.cmpi .eq c 0#32) 1#32 c))

/-- The quotient of one word, as the kernel forms it. -/
def pd (x c : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt c 0#32)) (Scalar.extui (Scalar.cmpi .slt c 0#32))))
      (IntOp.cmpi .ne (IntOp.remsi .vector x c) 0#32))
    (IntOp.subi (IntOp.divsi .vector x c) 1#32) (IntOp.divsi .vector x c)

/-- A lane number as the gather takes it. -/
def wr (y : BitVec 32) : BitVec 32 := Scalar.select (IntOp.cmpi .slt y 0#32) (IntOp.addi y 128#32) y

theorem pmod_apply {s : Shape} (hb : s.Broadcasts s) (x : IVec s 32) (c : BitVec 32) (j : s.Idx) : pmod hb x c j = pm (x j) c := rfl
theorem pdiv_apply {s : Shape} (x : IVec s 32) (c : BitVec 32) (j : s.Idx) : pdiv x c j = pd (x j) c := rfl
theorem lanes256_apply (r : Fin 256) (l : Fin 128) : lanes256 (ix2 r l) = BitVec.ofNat 32 l.val := by pointwise [lanes256]
theorem lanes64_apply (r : Fin 64) (l : Fin 128) : lanes64 (ix2 r l) = BitVec.ofNat 32 l.val := by pointwise [lanes64]

/-- The source lane of the permutation, in every lane. -/
theorem pat_table : ∀ (p : Fin 4) (l : Fin 128),
    (wr (IntOp.addi (IntOp.muli 4#32 (pm (pd (BitVec.ofNat 32 l.val) 2#32) 32#32)) (BitVec.ofNat 32 p.val))).toNat % 128 = 4 * ((l.val / 2) % 32) + p.val := by
  decide +kernel
/-- The even lanes. -/
theorem even_table : ∀ l : Fin 128, IntOp.cmpi .eq (pm (BitVec.ofNat 32 l.val) 2#32) 0#32 = BitVec.ofBool (decide (l.val % 2 = 0)) := by
  decide +kernel
/-- The low lanes. -/
theorem low_table : ∀ l : Fin 128, IntOp.cmpi .slt (BitVec.ofNat 32 l.val) 64#32 = BitVec.ofBool (decide (l.val < 64)) := by
  decide +kernel
/-- The word of every lane. -/
def wordS (l : BitVec 32) : BitVec 32 := IntOp.addi (IntOp.muli 8#32 (pm l 2#32)) (pd (pd l 2#32) 8#32)
/-- The group of every lane. -/
def grpS (l : BitVec 32) : BitVec 32 := pm (pd l 2#32) 8#32
/-- The source lane of the nibbles, for the first two thirds. -/
theorem nib01_table : ∀ (k : Fin 2) (l : Fin 128),
    (wr (IntOp.addi (IntOp.addi (IntOp.muli 32#32 (pd (grpS (BitVec.ofNat 32 l.val)) 2#32)) (BitVec.ofNat 32 (16 * k.val))) (wordS (BitVec.ofNat 32 l.val)))).toNat % 128
      = 32 * ((l.val / 2 % 8) / 2) + (16 * k.val + 8 * (l.val % 2) + l.val / 16) := by
  decide +kernel
/-- The source lane of the nibbles, for the last third. -/
theorem nib2_table : ∀ l : Fin 128,
    (wr (IntOp.addi (IntOp.muli 16#32 (pd (grpS (BitVec.ofNat 32 l.val)) 2#32)) (wordS (BitVec.ofNat 32 l.val)))).toNat % 128
      = 16 * ((l.val / 2 % 8) / 2) + (8 * (l.val % 2) + l.val / 16) := by
  decide +kernel
/-- How far every lane shifts. -/
theorem shift_table : ∀ l : Fin 128, IntOp.muli 2#32 (pm (grpS (BitVec.ofNat 32 l.val)) 2#32) = BitVec.ofNat 32 (2 * (l.val / 2 % 2)) := by
  decide +kernel

theorem select_ofBool {α : Type} (p : Prop) [Decidable p] (a b : α) : Scalar.select (BitVec.ofBool (decide p)) a b = if p then a else b := by
  by_cases h : p
  · rw [decide_eq_true h, if_pos h]; rfl
  · rw [decide_eq_false h, if_neg h]; rfl

section
variable {F : FTy → Type} [FloatOps F]

theorem gather256 (x : FVec F S256x128 .f32) (y : IVec S256x128 32) (r : Fin 256) (l : Fin 128) (n : ℕ) (hn : n < 128)
    (h : (wr (y (ix2 r l))).toNat % 128 = n) : dynamicGather 1 x (wrap256 y) (ix2 r l) = x (ix2 r ⟨n, hn⟩) := by
  subst h
  pointwise [wrap256, wr]

theorem gather64 (x y : IVec S64x128 32) (r : Fin 64) (l : Fin 128) (n : ℕ) (hn : n < 128)
    (h : (wr (y (ix2 r l))).toNat % 128 = n) : dynamicGather 1 x (wrap64 y) (ix2 r l) = x (ix2 r ⟨n, hn⟩) := by
  subst h
  pointwise [wrap64, wr]

theorem pat_apply (p : Fin 4) (r : Fin 256) (l : Fin 128) :
    (wr (pat (BitVec.ofNat 32 p.val) (ix2 r l))).toNat % 128 = 4 * ((l.val / 2) % 32) + p.val := by
  rw [← pat_table p l]
  show (wr (IntOp.addi (IntOp.muli 4#32 (pmod broadcasts_S256x128_S256x128 (pdiv lanes256 2#32) 32#32 (ix2 r l))) _)).toNat % 128 = _
  rw [pmod_apply, pdiv_apply, lanes256_apply]
  rfl

/-- One piece of the permuted codes, at an index. -/
theorem permPiece_apply (s0 s1 s2 s3 : FVec F S256x128 .f32) (p : Fin 4) (r : Fin 256) (l : Fin 128) :
    permPiece s0 s1 s2 s3 (BitVec.ofNat 32 p.val) (ix2 r l)
      = (if l.val % 2 = 0 then (if l.val < 64 then s0 else s1) else (if l.val < 64 then s2 else s3)) (ix2 r ⟨4 * ((l.val / 2) % 32) + p.val, by omega⟩) := by
  unfold permPiece
  show Scalar.select (IntOp.cmpi .eq (pmod broadcasts_S256x128_S256x128 lanes256 2#32 (ix2 r l)) 0#32)
    (Scalar.select (IntOp.cmpi .slt (lanes256 (ix2 r l)) 64#32) _ _) (Scalar.select (IntOp.cmpi .slt (lanes256 (ix2 r l)) 64#32) _ _) = _
  rw [pmod_apply, lanes256_apply, even_table, low_table, select_ofBool, select_ofBool, select_ofBool]
  rw [gather256 s0 _ r l _ (by omega) (pat_apply p r l), gather256 s1 _ r l _ (by omega) (pat_apply p r l),
    gather256 s2 _ r l _ (by omega) (pat_apply p r l), gather256 s3 _ r l _ (by omega) (pat_apply p r l)]
  split <;> split <;> rfl

/-- The dense column that each of the kernel's columns holds. -/
def perm (c : Fin 1536) : Fin 1536 :=
  ⟨512 * (c.val / 512) + 256 * (c.val % 128 % 2) + 4 * (c.val % 128 / 2) + c.val / 128 % 4, by omega⟩

theorem permK0_apply (v : FVec F S256x1536 .f32) (p : Fin 4) (r : Fin 256) (l : Fin 128) :
    permK0 v (BitVec.ofNat 32 p.val) (ix2 r l) = v (ix2 r (perm ⟨128 * p.val + l.val, by omega⟩)) := by
  unfold permK0
  rw [permPiece_apply]
  split <;> split <;> pointwise [perm] <;> congr 2 <;> apply Fin.ext <;> dsimp only [perm] <;> omega

theorem permK1_apply (v : FVec F S256x1536 .f32) (p : Fin 4) (r : Fin 256) (l : Fin 128) :
    permK1 v (BitVec.ofNat 32 p.val) (ix2 r l) = v (ix2 r (perm ⟨512 + 128 * p.val + l.val, by omega⟩)) := by
  unfold permK1
  rw [permPiece_apply]
  split <;> split <;> pointwise [perm] <;> congr 2 <;> apply Fin.ext <;> dsimp only [perm] <;> omega

theorem permK2_apply (v : FVec F S256x1536 .f32) (p : Fin 4) (r : Fin 256) (l : Fin 128) :
    permK2 v (BitVec.ofNat 32 p.val) (ix2 r l) = v (ix2 r (perm ⟨1024 + 128 * p.val + l.val, by omega⟩)) := by
  unfold permK2
  rw [permPiece_apply]
  split <;> split <;> pointwise [perm] <;> congr 2 <;> apply Fin.ext <;> dsimp only [perm] <;> omega

end

/-- A choice both of whose sides are one value is that value. -/
theorem dite_both {α : Type} {P : Prop} [Decidable P] {a : P → α} {b : ¬P → α} {z : α} (ha : ∀ h, a h = z) (hb : ∀ h, b h = z) : dite P a b = z := by
  by_cases h : P
  · rw [dif_pos h, ha]
  · rw [dif_neg h, hb]

/-- Twelve registers side by side, read at a column. -/
theorem chain12 {α : Type} (f : Fin 12 → Fin 128 → α) (c : Fin 1536) :
    (if h0 : c.val < 128 then f 0 ⟨c.val, h0⟩
    else if h1 : c.val - 128 < 128 then f 1 ⟨c.val - 128, h1⟩
    else if h2 : c.val - 128 - 128 < 128 then f 2 ⟨c.val - 128 - 128, h2⟩
    else if h3 : c.val - 128 - 128 - 128 < 128 then f 3 ⟨c.val - 128 - 128 - 128, h3⟩
    else if h4 : c.val - 128 - 128 - 128 - 128 < 128 then f 4 ⟨c.val - 128 - 128 - 128 - 128, h4⟩
    else if h5 : c.val - 128 - 128 - 128 - 128 - 128 < 128 then f 5 ⟨c.val - 128 - 128 - 128 - 128 - 128, h5⟩
    else if h6 : c.val - 128 - 128 - 128 - 128 - 128 - 128 < 128 then f 6 ⟨c.val - 128 - 128 - 128 - 128 - 128 - 128, h6⟩
    else if h7 : c.val - 128 - 128 - 128 - 128 - 128 - 128 - 128 < 128 then f 7 ⟨c.val - 128 - 128 - 128 - 128 - 128 - 128 - 128, h7⟩
    else if h8 : c.val - 128 - 128 - 128 - 128 - 128 - 128 - 128 - 128 < 128 then f 8 ⟨c.val - 128 - 128 - 128 - 128 - 128 - 128 - 128 - 128, h8⟩
    else if h9 : c.val - 128 - 128 - 128 - 128 - 128 - 128 - 128 - 128 - 128 < 128 then f 9 ⟨c.val - 128 - 128 - 128 - 128 - 128 - 128 - 128 - 128 - 128, h9⟩
    else if h10 : c.val - 128 - 128 - 128 - 128 - 128 - 128 - 128 - 128 - 128 - 128 < 128 then f 10 ⟨c.val - 128 - 128 - 128 - 128 - 128 - 128 - 128 - 128 - 128 - 128, h10⟩
    else f 11 ⟨c.val - 128 - 128 - 128 - 128 - 128 - 128 - 128 - 128 - 128 - 128 - 128, by omega⟩)
      = f ⟨c.val / 128, by omega⟩ ⟨c.val % 128, by omega⟩ := by
  have key (k : Fin 12) (n : ℕ) (hn : n < 128) (e : c.val = 128 * k.val + n) : f k ⟨n, hn⟩ = f ⟨c.val / 128, by omega⟩ ⟨c.val % 128, by omega⟩ := by
    have a : (⟨c.val / 128, by omega⟩ : Fin 12) = k := Fin.ext (by dsimp only; omega)
    have b : (⟨c.val % 128, by omega⟩ : Fin 128) = ⟨n, hn⟩ := Fin.ext (by dsimp only; omega)
    rw [a, b]
  refine dite_both (fun h => key 0 _ _ (by show c.val = 128 * 0 + _; omega)) fun h0 => ?_
  refine dite_both (fun h => key 1 _ _ (by show c.val = 128 * 1 + _; omega)) fun h1 => ?_
  refine dite_both (fun h => key 2 _ _ (by show c.val = 128 * 2 + _; omega)) fun h2 => ?_
  refine dite_both (fun h => key 3 _ _ (by show c.val = 128 * 3 + _; omega)) fun h3 => ?_
  refine dite_both (fun h => key 4 _ _ (by show c.val = 128 * 4 + _; omega)) fun h4 => ?_
  refine dite_both (fun h => key 5 _ _ (by show c.val = 128 * 5 + _; omega)) fun h5 => ?_
  refine dite_both (fun h => key 6 _ _ (by show c.val = 128 * 6 + _; omega)) fun h6 => ?_
  refine dite_both (fun h => key 7 _ _ (by show c.val = 128 * 7 + _; omega)) fun h7 => ?_
  refine dite_both (fun h => key 8 _ _ (by show c.val = 128 * 8 + _; omega)) fun h8 => ?_
  refine dite_both (fun h => key 9 _ _ (by show c.val = 128 * 9 + _; omega)) fun h9 => ?_
  refine dite_both (fun h => key 10 _ _ (by show c.val = 128 * 10 + _; omega)) fun h10 => ?_
  exact key 11 _ _ (by show c.val = 128 * 11 + _; omega)

/-- The twelve pieces of a chunk's permuted codes. -/
def permPieces (v : FVec Ideal S256x1536 .f32) : Fin 12 → FVec Ideal S256x128 .f32 :=
  ![permK0 v 0#32, permK0 v 1#32, permK0 v 2#32, permK0 v 3#32, permK1 v 0#32, permK1 v 1#32, permK1 v 2#32, permK1 v 3#32,
    permK2 v 0#32, permK2 v 1#32, permK2 v 2#32, permK2 v 3#32]

theorem permPieces_apply (v : FVec Ideal S256x1536 .f32) (q : Fin 12) (r : Fin 256) (l : Fin 128) :
    permPieces v q (ix2 r l) = v (ix2 r (perm ⟨128 * q.val + l.val, by omega⟩)) := by
  have e0 (p : Fin 4) := permK0_apply (F := Ideal) v p r l
  have e1 (p : Fin 4) := permK1_apply (F := Ideal) v p r l
  have e2 (p : Fin 4) := permK2_apply (F := Ideal) v p r l
  fin_cases q
  exacts [e0 0, e0 1, e0 2, e0 3, e1 0, e1 1, e1 2, e1 3, e2 0, e2 1, e2 2, e2 3]

/-- The permuted codes of a chunk, at an index. -/
theorem permOf_apply (x : FVec Ideal S256x1536 .fp8e4m3) (r : Fin 256) (c : Fin 1536) : permOf x (ix2 r c) = x (ix2 r (perm c)) := by
  pointwise [permOf]
  refine (chain12 (fun q l => permPieces (extf .f32 x bitsLt_fp8e4m3_f32) q (ix2 r l)) c).trans ?_
  rw [permPieces_apply]
  show x _ = x _
  congr 3
  apply Fin.ext
  dsimp only
  omega

end Cert.KernelIdeal.Body

end
-- ==== Proof.Tile.lean ====
module

public import proofs.«01_k».proof.Proof.Lanes
public import proofs.«01_k».proof.Proof.Bytes
public import Idealize.ShloMosaic.Lib.BitcastFour

@[expose] public section

set_option maxRecDepth 16384

noncomputable section

/-! A tile's dense weights, at an index: the byte that the two positions and the two kept values of its group put there. -/

namespace Cert.KernelIdeal.Body

open Cert.KernelIdeal Cert.KernelIdeal.Gen Cert.Bytes
open Idealize.ShloMosaic Idealize.ShloMosaic.TcCoe

/-- A word of four rows, read as bytes. -/
theorem bytes_apply (w : IVec S64x1536 32) (n : Fin 256) (c : Fin 1536) :
    bitcast S256x1536 8 w bitcasts_S64x1536_w32_S256x1536_w8 (ix2 n c) = byte (w (ix2 ⟨n.val / 4, by omega⟩ c)) ⟨n.val % 4, by omega⟩ := by
  apply BitVec.eq_of_getLsbD_eq
  intro i hi
  rw [bitcast_getLsbD w _ _ i hi (by decide)]
  unfold byte
  rw [BitVec.getLsbD_extractLsb', decide_eq_true hi, Bool.true_and]
  have hr : S256x1536.row (ix2 n c) = n.val := rfl
  have e2 : (S256x1536.row (ix2 n c) * 8 + i) % 32 = 8 * (n.val % 4) + i := by rw [hr]; omega
  rw [e2]
  congr 2
  funext a
  match a with
  | ⟨0, _⟩ =>
    refine Fin.ext ((Shape.Bitcasts.srcIdx_row _ _ _ _ ⟨0, Nat.zero_lt_two⟩ rfl).trans ?_)
    rw [hr]; show _ = n.val / 4; omega
  | ⟨1, _⟩ => exact Fin.ext (Shape.Bitcasts.srcIdx_other _ _ _ _ ⟨1, Nat.one_lt_two⟩ (by show ¬ 1 + 2 = 2; omega))

/-- A byte of a word of kept values. -/
theorem wordsOf_byte (vals : Vec Ideal S256x768 .i8) (R : Fin 64) (c : Fin 768) (B : Fin 4) :
    byte (wordsOf vals (ix2 R c)) B = (vals : IVec S256x768 8) (ix2 ⟨4 * R.val + B.val, by omega⟩ c) := by
  apply BitVec.eq_of_getLsbD_eq
  intro i hi
  unfold byte
  rw [BitVec.getLsbD_extractLsb', decide_eq_true hi, Bool.true_and]
  have := bitcast_8_32_getLsbD_ix2 (vals : IVec S256x768 8) bitcasts_S256x768_w8_S64x768_w32 R c (8 * B.val + i) (by omega)
    ⟨4 * R.val + B.val, by omega⟩ (by dsimp only; omega)
  refine this.trans ?_
  congr 1
  omega

/-- The four nibble words at one word of the index. -/
theorem xCat_apply (a b c d : IVec S64x48 32) (R : Fin 64) (h : Fin 4) (w : ℕ) (hw : w < 32) :
    xCat a b c d (ix2 R ⟨32 * h.val + w, by omega⟩) = (![a, b, c, d] h) (ix2 R ⟨w, by omega⟩) := by
  pointwise [xCat]
  fin_cases h
  · rw [dif_pos (by dsimp only; omega)]; congr 2; apply Fin.ext; dsimp only; omega
  · rw [dif_neg (by dsimp only; omega), dif_pos (by dsimp only; omega)]; show b _ = b _; congr 2; apply Fin.ext; dsimp only; omega
  · rw [dif_neg (by dsimp only; omega), dif_neg (by dsimp only; omega), dif_pos (by dsimp only; omega)]; show c _ = c _; congr 2; apply Fin.ext; dsimp only; omega
  · rw [dif_neg (by dsimp only; omega), dif_neg (by dsimp only; omega), dif_neg (by dsimp only; omega)]; show d _ = d _; congr 2; apply Fin.ext; dsimp only; omega

theorem yCat_apply (a b c d : IVec S64x48 32) (R : Fin 64) (h : Fin 4) (w : ℕ) (hw : w < 16) :
    yCat a b c d (ix2 R ⟨16 * h.val + w, by omega⟩) = (![a, b, c, d] h) (ix2 R ⟨32 + w, by omega⟩) := by
  pointwise [yCat]
  fin_cases h
  · rw [dif_pos (by dsimp only; omega)]; show a _ = a _; congr 2; apply Fin.ext; dsimp only; omega
  · rw [dif_neg (by dsimp only; omega), dif_pos (by dsimp only; omega)]; show b _ = b _; congr 2; apply Fin.ext; dsimp only; omega
  · rw [dif_neg (by dsimp only; omega), dif_neg (by dsimp only; omega), dif_pos (by dsimp only; omega)]; show c _ = c _; congr 2; apply Fin.ext; dsimp only; omega
  · rw [dif_neg (by dsimp only; omega), dif_neg (by dsimp only; omega), dif_neg (by dsimp only; omega), dif_pos (by dsimp only; omega)]; show d _ = d _; congr 2; apply Fin.ext; dsimp only; omega

variable (i0 i1 i2 i3 : IVec S64x48 32)

theorem u_apply (h : Fin 4) (R : Fin 64) (w : Fin 48) :
    (![u0 i0 i1 i2 i3, u1 i0 i1 i2 i3, u2 i0 i1 i2 i3, u3 i0 i1 i2 i3] h) (ix2 R w) = uS h (i0 (ix2 R w)) (i1 (ix2 R w)) (i2 (ix2 R w)) (i3 (ix2 R w)) := by
  fin_cases h <;> rfl

theorem grpL_apply (R : Fin 64) (l : Fin 128) : grpL (ix2 R l) = grpS (BitVec.ofNat 32 l.val) := by
  unfold grpL grpS
  rw [pmod_apply, pdiv_apply, lanes64_apply]
theorem wordL_apply (R : Fin 64) (l : Fin 128) : wordL (ix2 R l) = wordS (BitVec.ofNat 32 l.val) := by
  show IntOp.addi (IntOp.muli 8#32 (pmod broadcasts_S64x128_S64x128 lanes64 2#32 (ix2 R l))) (pdiv (pdiv lanes64 2#32) 8#32 (ix2 R l)) = _
  rw [pmod_apply, pdiv_apply, pdiv_apply, lanes64_apply]
  rfl
theorem shiftL_apply (R : Fin 64) (l : Fin 128) : shiftL (ix2 R l) = BitVec.ofNat 32 (2 * (l.val / 2 % 2)) := by
  rw [← shift_table l, ← grpL_apply R l]
  rfl

/-- The nibble word of one lane. -/
def nibS (W : Fin 48) (R : Fin 64) (l : Fin 128) : BitVec 32 :=
  (uS ⟨(l.val / 2 % 8) / 2, by omega⟩ (i0 (ix2 R W)) (i1 (ix2 R W)) (i2 (ix2 R W)) (i3 (ix2 R W))) >>> (2 * (l.val / 2 % 8 % 2))

theorem nib01_apply (k : Fin 2) (R : Fin 64) (l : Fin 128) :
    nib01 (xCat (u0 i0 i1 i2 i3) (u1 i0 i1 i2 i3) (u2 i0 i1 i2 i3) (u3 i0 i1 i2 i3)) (BitVec.ofNat 32 (16 * k.val)) (ix2 R l)
      = nibS i0 i1 i2 i3 ⟨16 * k.val + 8 * (l.val % 2) + l.val / 16, by omega⟩ R l := by
  unfold nib01
  show IntOp.shrui .vector (dynamicGather 1 _ (wrap64 _) (ix2 R l)) (shiftL (ix2 R l)) = _
  rw [shiftL_apply, shrui_lt _ _ (by omega)]
  rw [gather64 _ _ R l (32 * ((l.val / 2 % 8) / 2) + (16 * k.val + 8 * (l.val % 2) + l.val / 16)) (by omega) (by
    rw [← nib01_table k l]
    show (wr (IntOp.addi (IntOp.addi (IntOp.muli 32#32 (pdiv grpL 2#32 (ix2 R l))) _) (wordL (ix2 R l)))).toNat % 128 = _
    rw [pdiv_apply, grpL_apply, wordL_apply]
    rfl)]
  have := xCat_apply (u0 i0 i1 i2 i3) (u1 i0 i1 i2 i3) (u2 i0 i1 i2 i3) (u3 i0 i1 i2 i3) R ⟨(l.val / 2 % 8) / 2, by omega⟩
    (16 * k.val + 8 * (l.val % 2) + l.val / 16) (by omega)
  dsimp only at this
  rw [this, u_apply]
  unfold nibS
  congr 1
  omega

theorem nib2_apply (R : Fin 64) (l : Fin 128) :
    nib2 (yCat (u0 i0 i1 i2 i3) (u1 i0 i1 i2 i3) (u2 i0 i1 i2 i3) (u3 i0 i1 i2 i3)) (ix2 R l)
      = nibS i0 i1 i2 i3 ⟨32 + 8 * (l.val % 2) + l.val / 16, by omega⟩ R l := by
  unfold nib2
  show IntOp.shrui .vector (dynamicGather 1 _ (wrap64 _) (ix2 R l)) (shiftL (ix2 R l)) = _
  rw [shiftL_apply, shrui_lt _ _ (by omega)]
  rw [gather64 _ _ R l (16 * ((l.val / 2 % 8) / 2) + (8 * (l.val % 2) + l.val / 16)) (by omega) (by
    rw [← nib2_table l]
    show (wr (IntOp.addi (IntOp.muli 16#32 (pdiv grpL 2#32 (ix2 R l))) (wordL (ix2 R l)))).toNat % 128 = _
    rw [pdiv_apply, grpL_apply, wordL_apply])]
  have := yCat_apply (u0 i0 i1 i2 i3) (u1 i0 i1 i2 i3) (u2 i0 i1 i2 i3) (u3 i0 i1 i2 i3) R ⟨(l.val / 2 % 8) / 2, by omega⟩
    (8 * (l.val % 2) + l.val / 16) (by omega)
  dsimp only at this
  rw [this, u_apply]
  unfold nibS
  have e : (⟨32 + (8 * (l.val % 2) + l.val / 16), by omega⟩ : Fin 48) = ⟨32 + 8 * (l.val % 2) + l.val / 16, by omega⟩ := Fin.ext (by dsimp only; omega)
  rw [e]
  congr 1
  omega

theorem evenL_apply (R : Fin 64) (l : Fin 128) : evenL (ix2 R l) = BitVec.ofBool (decide (l.val % 2 = 0)) := by
  rw [← even_table l]
  show IntOp.cmpi .eq (pmod broadcasts_S64x128_S64x128 lanes64 2#32 (ix2 R l)) 0#32 = _
  rw [pmod_apply, lanes64_apply]

/-- The second kept values before the mask. -/
def rawSecond (v0 v1 : IVec S64x128 32) : IVec S64x128 32 := select evenL (dynamicRotate 1 127#32 none v0 rotates_S64x128_d1) v1

theorem firstOf_apply (v0 v1 : IVec S64x128 32) (R : Fin 64) (l : Fin 128) :
    firstOf v0 v1 (ix2 R l) = if l.val % 2 = 0 then v0 (ix2 R l) else v1 (ix2 R ⟨(l.val + 128 - 1) % 128, by omega⟩) := by
  rw [← select_ofBool, ← evenL_apply R l]
  pointwise [firstOf, evenL, lanes64]

theorem rawSecond_apply (v0 v1 : IVec S64x128 32) (R : Fin 64) (l : Fin 128) :
    rawSecond v0 v1 (ix2 R l) = if l.val % 2 = 0 then v0 (ix2 R ⟨(l.val + 128 - 127) % 128, by omega⟩) else v1 (ix2 R l) := by
  rw [← select_ofBool, ← evenL_apply R l]
  pointwise [rawSecond, evenL, lanes64]

/-- The two value registers of one third. -/
def va (v : IVec S64x768 32) (k : Fin 3) : IVec S64x128 32 := ![va0 v, va1 v, va2 v] k
/-- The second value register of one third. -/
def vb (v : IVec S64x768 32) (k : Fin 3) : IVec S64x128 32 := ![vb0 v, vb1 v, vb2 v] k

theorem va_apply (v : IVec S64x768 32) (k : Fin 3) (R : Fin 64) (l : Fin 128) : va v k (ix2 R l) = v (ix2 R ⟨256 * k.val + l.val, by omega⟩) := by
  fin_cases k
  · show va0 v (ix2 R l) = _
    pointwise [va0]
  · show va1 v (ix2 R l) = _
    pointwise [va1]
  · show va2 v (ix2 R l) = _
    pointwise [va2]
theorem vb_apply (v : IVec S64x768 32) (k : Fin 3) (R : Fin 64) (l : Fin 128) : vb v k (ix2 R l) = v (ix2 R ⟨256 * k.val + 128 + l.val, by omega⟩) := by
  fin_cases k
  · show vb0 v (ix2 R l) = _
    pointwise [vb0]
  · show vb1 v (ix2 R l) = _
    pointwise [vb1]
  · show vb2 v (ix2 R l) = _
    pointwise [vb2]

theorem first_val (v : IVec S64x768 32) (k : Fin 3) (R : Fin 64) (l : Fin 128) :
    firstOf (va v k) (vb v k) (ix2 R l) = v (ix2 R ⟨256 * k.val + 128 * (l.val % 2) + (l.val - l.val % 2), by omega⟩) := by
  rw [firstOf_apply, va_apply, vb_apply]
  split <;> (congr 2; apply Fin.ext; dsimp only; omega)
theorem second_val (v : IVec S64x768 32) (k : Fin 3) (R : Fin 64) (l : Fin 128) :
    rawSecond (va v k) (vb v k) (ix2 R l) = v (ix2 R ⟨256 * k.val + 128 * (l.val % 2) + (l.val - l.val % 2) + 1, by omega⟩) := by
  rw [rawSecond_apply, va_apply, vb_apply]
  split <;> (congr 2; apply Fin.ext; dsimp only; omega)

/-- The values that land on one position. -/
def atp (p : Fin 4) (f s n : IVec S64x128 32) : IVec S64x128 32 := ![at0 f s n, at1 f s n, at2 f s n, at3 f s n] p

theorem atp_byte (p : Fin 4) (v0 v1 n : IVec S64x128 32) (R : Fin 64) (l : Fin 128) (B : Fin 4) :
    byte (atp p (firstOf v0 v1) (secondOf v0 v1 n) n (ix2 R l)) B
      = put p.val (pos ((n (ix2 R l)).getLsbD (8 * B.val)) ((n (ix2 R l)).getLsbD (8 * B.val + 1)))
          (pos ((n (ix2 R l)).getLsbD (8 * B.val + 4)) ((n (ix2 R l)).getLsbD (8 * B.val + 5)))
          (byte (firstOf v0 v1 (ix2 R l)) B) (byte (rawSecond v0 v1 (ix2 R l)) B) := by
  fin_cases p
  · exact at0_byte (firstOf v0 v1 (ix2 R l)) (rawSecond v0 v1 (ix2 R l)) (n (ix2 R l)) B
  · exact at1_byte (firstOf v0 v1 (ix2 R l)) (rawSecond v0 v1 (ix2 R l)) (n (ix2 R l)) B
  · exact at2_byte (firstOf v0 v1 (ix2 R l)) (rawSecond v0 v1 (ix2 R l)) (n (ix2 R l)) B
  · exact at3_byte (firstOf v0 v1 (ix2 R l)) (rawSecond v0 v1 (ix2 R l)) (n (ix2 R l)) B

/-- The nibbles of the three thirds. -/
def nibK (k : Fin 3) : IVec S64x128 32 :=
  ![nib01 (xCat (u0 i0 i1 i2 i3) (u1 i0 i1 i2 i3) (u2 i0 i1 i2 i3) (u3 i0 i1 i2 i3)) 0#32,
    nib01 (xCat (u0 i0 i1 i2 i3) (u1 i0 i1 i2 i3) (u2 i0 i1 i2 i3) (u3 i0 i1 i2 i3)) 16#32,
    nib2 (yCat (u0 i0 i1 i2 i3) (u1 i0 i1 i2 i3) (u2 i0 i1 i2 i3) (u3 i0 i1 i2 i3))] k

theorem nibK_apply (k : Fin 3) (R : Fin 64) (l : Fin 128) :
    nibK i0 i1 i2 i3 k (ix2 R l) = nibS i0 i1 i2 i3 ⟨16 * k.val + 8 * (l.val % 2) + l.val / 16, by omega⟩ R l := by
  fin_cases k
  · exact nib01_apply i0 i1 i2 i3 0 R l
  · exact nib01_apply i0 i1 i2 i3 1 R l
  · exact nib2_apply i0 i1 i2 i3 R l

/-- One register of the dense weights, one byte of it. -/
theorem piece_byte (vals : Vec Ideal S256x768 .i8) (k : Fin 3) (p : Fin 4) (R : Fin 64) (l : Fin 128) (B : Fin 4) :
    byte (atp p (firstOf (va (wordsOf vals) k) (vb (wordsOf vals) k)) (secondOf (va (wordsOf vals) k) (vb (wordsOf vals) k) (nibK i0 i1 i2 i3 k))
        (nibK i0 i1 i2 i3 k) (ix2 R l)) B
      = denseByte ((![i0, i1, i2, i3] B) (ix2 R ⟨16 * k.val + 8 * (l.val % 2) + l.val / 16, by omega⟩)) (l.val / 2 % 8) p.val
          ((vals : IVec S256x768 8) (ix2 ⟨4 * R.val + B.val, by omega⟩ ⟨256 * k.val + 128 * (l.val % 2) + (l.val - l.val % 2), by omega⟩))
          ((vals : IVec S256x768 8) (ix2 ⟨4 * R.val + B.val, by omega⟩ ⟨256 * k.val + 128 * (l.val % 2) + (l.val - l.val % 2) + 1, by omega⟩)) := by
  rw [atp_byte, first_val, second_val, wordsOf_byte, wordsOf_byte, nibK_apply]
  have hw : (![i0, i1, i2, i3] B) (ix2 R ⟨16 * k.val + 8 * (l.val % 2) + l.val / 16, by omega⟩)
      = ![i0 (ix2 R ⟨16 * k.val + 8 * (l.val % 2) + l.val / 16, by omega⟩), i1 (ix2 R ⟨16 * k.val + 8 * (l.val % 2) + l.val / 16, by omega⟩),
          i2 (ix2 R ⟨16 * k.val + 8 * (l.val % 2) + l.val / 16, by omega⟩), i3 (ix2 R ⟨16 * k.val + 8 * (l.val % 2) + l.val / 16, by omega⟩)] B := by
    fin_cases B <;> rfl
  unfold denseByte nibS
  rw [hw]
  have h0 := nib_bits ⟨l.val / 2 % 8, by omega⟩ B (i0 (ix2 R ⟨16 * k.val + 8 * (l.val % 2) + l.val / 16, by omega⟩)) (i1 (ix2 R ⟨16 * k.val + 8 * (l.val % 2) + l.val / 16, by omega⟩))
    (i2 (ix2 R ⟨16 * k.val + 8 * (l.val % 2) + l.val / 16, by omega⟩)) (i3 (ix2 R ⟨16 * k.val + 8 * (l.val % 2) + l.val / 16, by omega⟩))
  have a0 := (h0 0).1
  have a1 := (h0 1).1
  have b0 := (h0 0).2
  have b1 := (h0 1).2
  simp only [Fin.val_zero, Fin.val_one, Nat.add_zero] at a0 a1 b0 b1
  rw [a0, a1, b0, show 8 * B.val + 5 = 8 * B.val + (4 + 1) from rfl, b1]

/-- The twelve registers of a tile. -/
def densePiece (vals : Vec Ideal S256x768 .i8) (q : Fin 12) : IVec S64x128 32 :=
  atp ⟨q.val % 4, by omega⟩ (firstOf (va (wordsOf vals) ⟨q.val / 4, by omega⟩) (vb (wordsOf vals) ⟨q.val / 4, by omega⟩))
    (secondOf (va (wordsOf vals) ⟨q.val / 4, by omega⟩) (vb (wordsOf vals) ⟨q.val / 4, by omega⟩) (nibK i0 i1 i2 i3 ⟨q.val / 4, by omega⟩))
    (nibK i0 i1 i2 i3 ⟨q.val / 4, by omega⟩)

/-- Twelve registers of words side by side, read at a column. -/
theorem words12 (f : Fin 12 → IVec S64x128 32) (R : Fin 64) (c : Fin 1536) :
    concatenate S64x1536 1 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩,
        ⟨S64x128, f 8⟩, ⟨S64x128, f 9⟩, ⟨S64x128, f 10⟩, ⟨S64x128, f 11⟩]
        concatenates_S64x128_S64x128_S64x128_S64x128_S64x128_S64x128_S64x128_S64x128_S64x128_S64x128_S64x128_S64x128_S64x1536_d1 (ix2 R c)
      = f ⟨c.val / 128, by omega⟩ (ix2 R ⟨c.val % 128, by omega⟩) := by
  pointwise []
  exact chain12 (fun q l => f q (ix2 R l)) c

section
attribute [local irreducible] at0 at1 at2 at3 firstOf secondOf va0 vb0 va1 vb1 va2 vb2 nib01 nib2 xCat yCat u0 u1 u2 u3 wordsOf

theorem tileWords_eq (vals : Vec Ideal S256x768 .i8) : tileWords vals i0 i1 i2 i3
    = concatenate S64x1536 1 [⟨S64x128, densePiece i0 i1 i2 i3 vals 0⟩, ⟨S64x128, densePiece i0 i1 i2 i3 vals 1⟩, ⟨S64x128, densePiece i0 i1 i2 i3 vals 2⟩,
        ⟨S64x128, densePiece i0 i1 i2 i3 vals 3⟩, ⟨S64x128, densePiece i0 i1 i2 i3 vals 4⟩, ⟨S64x128, densePiece i0 i1 i2 i3 vals 5⟩,
        ⟨S64x128, densePiece i0 i1 i2 i3 vals 6⟩, ⟨S64x128, densePiece i0 i1 i2 i3 vals 7⟩, ⟨S64x128, densePiece i0 i1 i2 i3 vals 8⟩,
        ⟨S64x128, densePiece i0 i1 i2 i3 vals 9⟩, ⟨S64x128, densePiece i0 i1 i2 i3 vals 10⟩, ⟨S64x128, densePiece i0 i1 i2 i3 vals 11⟩]
        concatenates_S64x128_S64x128_S64x128_S64x128_S64x128_S64x128_S64x128_S64x128_S64x128_S64x128_S64x128_S64x128_S64x1536_d1 := rfl

end

theorem tileWords_apply (vals : Vec Ideal S256x768 .i8) (R : Fin 64) (c : Fin 1536) :
    tileWords vals i0 i1 i2 i3 (ix2 R c) = densePiece i0 i1 i2 i3 vals ⟨c.val / 128, by omega⟩ (ix2 R ⟨c.val % 128, by omega⟩) := by
  rw [tileWords_eq]
  exact words12 (densePiece i0 i1 i2 i3 vals) R c

/-- Where a column's group and its kept values lie, and where the kernel finds them. -/
theorem perm_facts : ∀ c : Fin 1536,
    16 * (c.val / 128 / 4) + 8 * (c.val % 128 % 2) + c.val % 128 / 16 = (perm c).val / 32 ∧ c.val % 128 / 2 % 8 = (perm c).val / 4 % 8 ∧
    c.val / 128 % 4 = (perm c).val % 4 ∧
    256 * (c.val / 128 / 4) + 128 * (c.val % 128 % 2) + (c.val % 128 - c.val % 128 % 2) = 16 * ((perm c).val / 32) + 2 * ((perm c).val / 4 % 8) := by
  decide +kernel

theorem denseByte_congr {w w' : BitVec 32} {j j' p p' : ℕ} {a a' b b' : BitVec 8} (h1 : w = w') (h2 : j = j') (h3 : p = p') (h4 : a = a') (h5 : b = b') :
    denseByte w j p a b = denseByte w' j' p' a' b' := by rw [h1, h2, h3, h4, h5]

/-- A tile's dense weight: the value of the dense byte at the column that the kernel's column holds. -/
theorem tileOf_apply (vals : Vec Ideal S256x768 .i8) (n : Fin 256) (c : Fin 1536) :
    tileOf vals i0 i1 i2 i3 (ix2 n c) = Ideal.ofBits .fp8e4m3
      (denseByte ((![i0, i1, i2, i3] ⟨n.val % 4, by omega⟩) (ix2 ⟨n.val / 4, by omega⟩ ⟨(perm c).val / 32, by omega⟩)) ((perm c).val / 4 % 8) ((perm c).val % 4)
        ((vals : IVec S256x768 8) (ix2 n ⟨16 * ((perm c).val / 32) + 2 * ((perm c).val / 4 % 8), by omega⟩))
        ((vals : IVec S256x768 8) (ix2 n ⟨16 * ((perm c).val / 32) + 2 * ((perm c).val / 4 % 8) + 1, by omega⟩))) := by
  show Ideal.ofBits .fp8e4m3 (bitcast S256x1536 8 (tileWords vals i0 i1 i2 i3) bitcasts_S64x1536_w32_S256x1536_w8 (ix2 n c)) = _
  rw [bytes_apply, tileWords_apply]
  obtain ⟨f1, f2, f3, f4⟩ := perm_facts c
  refine congrArg _ ((piece_byte i0 i1 i2 i3 vals _ _ _ _ _).trans (denseByte_congr ?_ f2 f3 ?_ ?_))
  · exact congrArg _ (congrArg (ix2 _) (Fin.ext f1))
  · exact congrArg₂ (fun a b => (vals : IVec S256x768 8) (ix2 a b)) (Fin.ext (by dsimp only; omega)) (Fin.ext f4)
  · exact congrArg₂ (fun a b => (vals : IVec S256x768 8) (ix2 a b)) (Fin.ext (by dsimp only; omega)) (Fin.ext (congrArg (· + 1) f4))

end Cert.KernelIdeal.Body

end
-- ==== Proof.KernelVal.lean ====
module

public import proofs.«01_k».proof.Proof.Body
public import proofs.«01_k».proof.Proof.Rows
public import proofs.«01_k».proof.Proof.Tile
public import proofs.«01_k».proof.Proof.Positions
public import Idealize.ShloMosaic.Lib.Pipeline.ValueKit

@[expose] public section

set_option maxRecDepth 16384

noncomputable section

/-! What the kernel's buffers hold, one entry at a time. -/

namespace Cert.KernelIdeal.Body

open Cert.KernelIdeal Cert.KernelIdeal.Gen Cert.Quant Cert.Bytes
open Idealize.ShloMosaic Idealize.ShloMosaic.TcCoe Idealize.SL.Sem

/-- A row of a chunk of the activations is a row of the activations. -/
theorem rowOf_chunk (x0 : Vec Ideal S1536x1536 .bf16) (off : ℕ) (inb : ∀ a, (![off, 0] : Fin 2 → ℕ) a + S256x1536.size a ≤ S1536x1536.size a)
    (i : Fin 1536) (r : Fin 256) (h : i.val = off + r.val) :
    rowOf (View.ld x0 (Rect.unit (s := S1536x1536) ![off, 0] S256x1536.size inb)) r = fun k => x0 (ix2 i k) := by
  funext k
  show x0 _ = x0 _
  refine congrArg x0 ?_
  funext a
  fin_cases a
  · exact Fin.ext (by show off + 1 * r.val = i.val; omega)
  · exact Fin.ext (by show 0 + 1 * k.val = k.val; omega)

/-- A chunk of codes, at an index of the whole array. -/
theorem codes_piece (x0 : Vec Ideal S1536x1536 .bf16) (off : ℕ) (inb : ∀ a, (![off, 0] : Fin 2 → ℕ) a + S256x1536.size a ≤ S1536x1536.size a)
    (i k : Fin 1536) (x : S256x1536.Idx) (h0 : i.val = off + (x 0).val) (h1 : k.val = (x 1).val) :
    codesOf (View.ld x0 (Rect.unit (s := S1536x1536) ![off, 0] S256x1536.size inb)) x = rowCode (fun k => x0 (ix2 i k)) k := by
  obtain ⟨a, b, rfl⟩ : ∃ (a : Fin 256) (b : Fin 1536), x = ix2 a b := ⟨x 0, x 1, by funext q; fin_cases q <;> rfl⟩
  obtain rfl : k = b := Fin.ext h1
  rw [codesOf_apply, rowOf_chunk x0 off inb i a h0]

/-- A chunk of permuted codes, at an index of the whole array. -/
theorem perm_piece (x0 : Vec Ideal S1536x1536 .bf16) (off : ℕ) (inb : ∀ a, (![off, 0] : Fin 2 → ℕ) a + S256x1536.size a ≤ S1536x1536.size a)
    (i k : Fin 1536) (x : S256x1536.Idx) (h0 : i.val = off + (x 0).val) (h1 : k.val = (x 1).val) :
    permOf (codesOf (View.ld x0 (Rect.unit (s := S1536x1536) ![off, 0] S256x1536.size inb))) x = rowCode (fun k => x0 (ix2 i k)) (perm k) := by
  obtain ⟨a, b, rfl⟩ : ∃ (a : Fin 256) (b : Fin 1536), x = ix2 a b := ⟨x 0, x 1, by funext q; fin_cases q <;> rfl⟩
  obtain rfl : k = b := Fin.ext h1
  rw [permOf_apply, codesOf_apply, rowOf_chunk x0 off inb i a h0]

/-- A chunk of scales, at an index of the whole array. -/
theorem scale_piece (x0 : Vec Ideal S1536x1536 .bf16) (off : ℕ) (inb : ∀ a, (![off, 0] : Fin 2 → ℕ) a + S256x1536.size a ≤ S1536x1536.size a)
    (i : Fin 1536) (x : S256x1.Idx) (h0 : i.val = off + (x 0).val) :
    scaleOf (View.ld x0 (Rect.unit (s := S1536x1536) ![off, 0] S256x1536.size inb)) x = rowScale (fun k => x0 (ix2 i k)) := by
  obtain ⟨a, b, rfl⟩ : ∃ (a : Fin 256) (b : Fin 1), x = ix2 a b := ⟨x 0, x 1, by funext q; fin_cases q <;> rfl⟩
  obtain rfl : b = 0 := Subsingleton.elim _ _
  rw [scaleOf_apply, rowOf_chunk x0 off inb i a h0]

/-- A chunk of repeated scales, at an index of the whole array. -/
theorem xs_piece (x0 : Vec Ideal S1536x1536 .bf16) (off : ℕ) (inb : ∀ a, (![off, 0] : Fin 2 → ℕ) a + S256x1536.size a ≤ S1536x1536.size a)
    (i : Fin 1536) (x : S256x128.Idx) (h0 : i.val = off + (x 0).val) :
    xsOf (View.ld x0 (Rect.unit (s := S1536x1536) ![off, 0] S256x1536.size inb)) x = rowScale (fun k => x0 (ix2 i k)) := by
  obtain ⟨a, b, rfl⟩ : ∃ (a : Fin 256) (b : Fin 128), x = ix2 a b := ⟨x 0, x 1, by funext q; fin_cases q <;> rfl⟩
  rw [xsOf_apply, rowOf_chunk x0 off inb i a h0]

/-- All the codes, entry by entry. -/
theorem codesA_apply (x0 : Vec Ideal S1536x1536 .bf16) (i k : Fin 1536) : codesA x0 (ix2 i k) = rowCode (fun k => x0 (ix2 i k)) k := by
  unfold codesA L5
  canon_tiles x h
  all_goals exact codes_piece x0 _ _ i k x (by first | exact h0 | exact h0.trans (Nat.zero_add _).symm) h1

/-- All the permuted codes, entry by entry. -/
theorem permA_apply (x0 : Vec Ideal S1536x1536 .bf16) (i k : Fin 1536) : permA x0 (ix2 i k) = rowCode (fun k => x0 (ix2 i k)) (perm k) := by
  unfold permA LP
  canon_tiles x h
  all_goals exact perm_piece x0 _ _ i k x (by first | exact h0 | exact h0.trans (Nat.zero_add _).symm) h1

/-- All the scales, entry by entry. -/
theorem scaleA_apply (x0 : Vec Ideal S1536x1536 .bf16) (i : Fin 1536) : scaleA x0 (ix2 i 0) = rowScale (fun k => x0 (ix2 i k)) := by
  unfold scaleA L6
  canon_tiles x h
  all_goals exact scale_piece x0 _ _ i x (by first | exact h0 | exact h0.trans (Nat.zero_add _).symm)

/-- All the repeated scales, entry by entry. -/
theorem xsA_apply (x0 : Vec Ideal S1536x1536 .bf16) (i : Fin 1536) (l : Fin 128) : xsA x0 (ix2 i l) = rowScale (fun k => x0 (ix2 i k)) := by
  unfold xsA LX
  canon_tiles x h
  all_goals exact xs_piece x0 _ _ i x (by first | exact h0 | exact h0.trans (Nat.zero_add _).symm)

/-- A tile's dense weights are the rows' it holds. -/
theorem tile_piece (x1 : Vec Ideal S1280x768 .i8) (x2 : Vec Ideal S1280x48 .i32) (o0 o1 o2 o3 : ℕ)
    (inb : ∀ a, (![o0, 0] : Fin 2 → ℕ) a + S256x768.size a ≤ S1280x768.size a)
    (l0 : ∀ a, S64x48.size a = 0 ∨ (![o0, 0] : Fin 2 → ℕ) a + (![4, 1] : Fin 2 → ℕ) a * (S64x48.size a - 1) < S1280x48.size a)
    (l1 : ∀ a, S64x48.size a = 0 ∨ (![o1, 0] : Fin 2 → ℕ) a + (![4, 1] : Fin 2 → ℕ) a * (S64x48.size a - 1) < S1280x48.size a)
    (l2 : ∀ a, S64x48.size a = 0 ∨ (![o2, 0] : Fin 2 → ℕ) a + (![4, 1] : Fin 2 → ℕ) a * (S64x48.size a - 1) < S1280x48.size a)
    (l3 : ∀ a, S64x48.size a = 0 ∨ (![o3, 0] : Fin 2 → ℕ) a + (![4, 1] : Fin 2 → ℕ) a * (S64x48.size a - 1) < S1280x48.size a)
    (h1 : o1 = o0 + 1) (h2 : o2 = o0 + 2) (h3 : o3 = o0 + 3) (a : Fin 256) (c : Fin 1536) (n : Fin 1280) (hn : n.val = o0 + a.val) :
    tileOf (View.ld x1 (Rect.unit (s := S1280x768) ![o0, 0] S256x768.size inb) : Vec Ideal S256x768 .i8)
      (fun j => x2 ((⟨![o0, 0], S64x48.size, ![4, 1], l0⟩ : LoadRect S1280x48).idx j))
      (fun j => x2 ((⟨![o1, 0], S64x48.size, ![4, 1], l1⟩ : LoadRect S1280x48).idx j))
      (fun j => x2 ((⟨![o2, 0], S64x48.size, ![4, 1], l2⟩ : LoadRect S1280x48).idx j))
      (fun j => x2 ((⟨![o3, 0], S64x48.size, ![4, 1], l3⟩ : LoadRect S1280x48).idx j)) (ix2 a c)
      = denseAt (fun j => x1 (ix2 n j)) (fun j => x2 (ix2 n j)) (perm c) := by
  rw [tileOf_apply]
  have key : ∀ (B : Fin 4) (R : Fin 64) (j : Fin 48), n.val = o0 + 4 * R.val + B.val →
      (![(fun j => x2 ((⟨![o0, 0], S64x48.size, ![4, 1], l0⟩ : LoadRect S1280x48).idx j) : IVec S64x48 32),
        (fun j => x2 ((⟨![o1, 0], S64x48.size, ![4, 1], l1⟩ : LoadRect S1280x48).idx j)),
        (fun j => x2 ((⟨![o2, 0], S64x48.size, ![4, 1], l2⟩ : LoadRect S1280x48).idx j)),
        (fun j => x2 ((⟨![o3, 0], S64x48.size, ![4, 1], l3⟩ : LoadRect S1280x48).idx j))] B) (ix2 R j) = x2 (ix2 n j) := by
    intro B R j hB
    have hj : ∀ (o : ℕ) (l : ∀ a, S64x48.size a = 0 ∨ (![o, 0] : Fin 2 → ℕ) a + (![4, 1] : Fin 2 → ℕ) a * (S64x48.size a - 1) < S1280x48.size a),
        n.val = o + 4 * R.val → x2 ((⟨![o, 0], S64x48.size, ![4, 1], l⟩ : LoadRect S1280x48).idx (ix2 R j)) = x2 (ix2 n j) := by
      intro o l ho
      refine congrArg x2 (funext fun q => ?_)
      fin_cases q
      · exact Fin.ext (by show o + 4 * R.val = n.val; omega)
      · exact Fin.ext (by show 0 + 1 * j.val = j.val; omega)
    fin_cases B
    · exact hj o0 l0 (by simpa using hB)
    · exact hj o1 l1 (by rw [h1]; simp only at hB; omega)
    · exact hj o2 l2 (by rw [h2]; simp only at hB; omega)
    · exact hj o3 l3 (by rw [h3]; simp only at hB; omega)
  have kv : ∀ j : Fin 768, (View.ld x1 (Rect.unit (s := S1280x768) ![o0, 0] S256x768.size inb) : Vec Ideal S256x768 .i8) (ix2 a j) = x1 (ix2 n j) := by
    intro j
    refine congrArg x1 (funext fun q => ?_)
    fin_cases q
    · exact Fin.ext (by show o0 + 1 * a.val = n.val; omega)
    · exact Fin.ext (by show 0 + 1 * j.val = j.val; omega)
  exact congrArg _ (denseByte_congr (key _ _ _ (by dsimp only; omega)) rfl rfl (kv _) (kv _))

/-- The kernel's columns hold every dense column once. -/
def permInv (k : Fin 1536) : Fin 1536 :=
  ⟨512 * (k.val / 512) + 128 * (k.val % 4) + 2 * (k.val % 256 / 4) + k.val % 512 / 256, by omega⟩

/-- The permutation of the lanes has an inverse. -/
theorem perm_inv : ∀ c : Fin 1536, permInv (perm c) = c := by decide +kernel

/-- A sum over permuted lanes is the sum over lanes. -/
theorem perm_sum (f : Fin 1536 → EReal) : ∑ c, f (perm c) = ∑ k, f k :=
  (Finite.injective_iff_bijective.mp (Function.LeftInverse.injective perm_inv)).sum_comp f

theorem acc_lo (xp : Vec Ideal S1536x1536 .fp8e4m3) (w : FVec Ideal S256x1536 .fp8e4m3) (xs : Vec Ideal S1536x128 .f32) (ws : Vec Ideal S1x128 .f32)
    (i : Fin 1536) (l : Fin 128) :
    outOf (accLo (accOf xp w)) xs ws (ix2 i l) = (∑ c : Fin 1536, xp (ix2 i c) * w (ix2 ⟨l.val, by omega⟩ c)) * xs (ix2 i l) * ws (ix2 0 l) := by
  pointwise [outOf, accLo, accOf]

theorem acc_hi (xp : Vec Ideal S1536x1536 .fp8e4m3) (w : FVec Ideal S256x1536 .fp8e4m3) (xs : Vec Ideal S1536x128 .f32) (ws : Vec Ideal S1x128 .f32)
    (i : Fin 1536) (l : Fin 128) :
    outOf (accHi (accOf xp w)) xs ws (ix2 i l) = (∑ c : Fin 1536, xp (ix2 i c) * w (ix2 ⟨128 + l.val, by omega⟩ c)) * xs (ix2 i l) * ws (ix2 0 l) := by
  pointwise [outOf, accHi, accOf]

theorem ld_codes (xp : Vec Ideal S1536x1536 .fp8e4m3) : View.ld xp (Rect.unit (s := S1536x1536) ![0, 0] S1536x1536.size inb_S1536x1536_S1536x1536_0_0) = xp := by
  funext j
  refine congrArg xp (funext fun q => ?_)
  fin_cases q <;> exact Fin.ext (by show 0 + 1 * _ = _; omega)

theorem ld_scales (xs : Vec Ideal S1536x128 .f32) : View.ld xs (Rect.unit (s := S1536x128) ![0, 0] S1536x128.size inb_S1536x128_S1536x128_0_0) = xs := by
  funext j
  refine congrArg xs (funext fun q => ?_)
  fin_cases q <;> exact Fin.ext (by show 0 + 1 * _ = _; omega)

theorem ld_ws (x3 : Vec Ideal S1x1280 .f32) (o : ℕ) (inb : ∀ a, (![0, o] : Fin 2 → ℕ) a + S1x128.size a ≤ S1x1280.size a) (l : Fin 128) (n : Fin 1280)
    (h : n.val = o + l.val) : View.ld x3 (Rect.unit (s := S1x1280) ![0, o] S1x128.size inb) (ix2 0 l) = x3 (ix2 0 n) := by
  refine congrArg x3 (funext fun q => ?_)
  fin_cases q
  · rfl
  · exact Fin.ext (by show o + 1 * l.val = n.val; omega)

/-- One entry of a block of the product. -/
def entry (x0 : Vec Ideal S1536x1536 .bf16) (x1 : Vec Ideal S1280x768 .i8) (x2 : Vec Ideal S1280x48 .i32) (x3 : Vec Ideal S1x1280 .f32) (i : Fin 1536) (n : Fin 1280) : EReal :=
  (∑ k, rowCode (fun k => x0 (ix2 i k)) k * denseAt (fun j => x1 (ix2 n j)) (fun j => x2 (ix2 n j)) k) * rowScale (fun k => x0 (ix2 i k)) * x3 (ix2 0 n)

/-- The sum of a tile over its lanes is the sum over the dense weights. -/
theorem sum_piece (x0 : Vec Ideal S1536x1536 .bf16) (x1 : Vec Ideal S1280x768 .i8) (x2 : Vec Ideal S1280x48 .i32) (w : FVec Ideal S256x1536 .fp8e4m3)
    (i : Fin 1536) (n : Fin 1280) (a : Fin 256) (hw : ∀ c, w (ix2 a c) = denseAt (fun j => x1 (ix2 n j)) (fun j => x2 (ix2 n j)) (perm c)) :
    (∑ c : Fin 1536, permA x0 (ix2 i c) * w (ix2 a c))
      = ∑ k, rowCode (fun k => x0 (ix2 i k)) k * denseAt (fun j => x1 (ix2 n j)) (fun j => x2 (ix2 n j)) k := by
  rw [← perm_sum fun k => rowCode (fun k => x0 (ix2 i k)) k * denseAt (fun j => x1 (ix2 n j)) (fun j => x2 (ix2 n j)) k]
  refine Finset.sum_congr rfl fun c _ => ?_
  rw [permA_apply, hw]

theorem lo_piece (x0 : Vec Ideal S1536x1536 .bf16) (x1 : Vec Ideal S1280x768 .i8) (x2 : Vec Ideal S1280x48 .i32) (x3 : Vec Ideal S1x1280 .f32)
    (w : FVec Ideal S256x1536 .fp8e4m3) (o : ℕ)
    (hw : ∀ (a : Fin 256) (c : Fin 1536) (n : Fin 1280), n.val = o + a.val → w (ix2 a c) = denseAt (fun j => x1 (ix2 n j)) (fun j => x2 (ix2 n j)) (perm c))
    (inb : ∀ a, (![0, o] : Fin 2 → ℕ) a + S1x128.size a ≤ S1x1280.size a) (i : Fin 1536) (n : Fin 1280) (x : S1536x128.Idx)
    (h0 : i.val = (x 0).val) (h1 : n.val = o + (x 1).val) :
    outOf (accLo (accOf (View.ld (permA x0) (Rect.unit (s := S1536x1536) ![0, 0] S1536x1536.size inb_S1536x1536_S1536x1536_0_0)) w))
      (View.ld (xsA x0) (Rect.unit (s := S1536x128) ![0, 0] S1536x128.size inb_S1536x128_S1536x128_0_0))
      (View.ld x3 (Rect.unit (s := S1x1280) ![0, o] S1x128.size inb)) x = entry x0 x1 x2 x3 i n := by
  obtain ⟨a, b, rfl⟩ : ∃ (a : Fin 1536) (b : Fin 128), x = ix2 a b := ⟨x 0, x 1, by funext q; fin_cases q <;> rfl⟩
  obtain rfl : i = a := Fin.ext h0
  rw [ld_codes, ld_scales, acc_lo, ld_ws x3 o inb b n h1, xsA_apply, sum_piece x0 x1 x2 w i n _ fun c => hw _ c n h1]
  rfl

theorem hi_piece (x0 : Vec Ideal S1536x1536 .bf16) (x1 : Vec Ideal S1280x768 .i8) (x2 : Vec Ideal S1280x48 .i32) (x3 : Vec Ideal S1x1280 .f32)
    (w : FVec Ideal S256x1536 .fp8e4m3) (o o' : ℕ) (ho : o' = o + 128)
    (hw : ∀ (a : Fin 256) (c : Fin 1536) (n : Fin 1280), n.val = o + a.val → w (ix2 a c) = denseAt (fun j => x1 (ix2 n j)) (fun j => x2 (ix2 n j)) (perm c))
    (inb : ∀ a, (![0, o'] : Fin 2 → ℕ) a + S1x128.size a ≤ S1x1280.size a) (i : Fin 1536) (n : Fin 1280) (x : S1536x128.Idx)
    (h0 : i.val = (x 0).val) (h1 : n.val = o' + (x 1).val) :
    outOf (accHi (accOf (View.ld (permA x0) (Rect.unit (s := S1536x1536) ![0, 0] S1536x1536.size inb_S1536x1536_S1536x1536_0_0)) w))
      (View.ld (xsA x0) (Rect.unit (s := S1536x128) ![0, 0] S1536x128.size inb_S1536x128_S1536x128_0_0))
      (View.ld x3 (Rect.unit (s := S1x1280) ![0, o'] S1x128.size inb)) x = entry x0 x1 x2 x3 i n := by
  obtain ⟨a, b, rfl⟩ : ∃ (a : Fin 1536) (b : Fin 128), x = ix2 a b := ⟨x 0, x 1, by funext q; fin_cases q <;> rfl⟩
  obtain rfl : i = a := Fin.ext h0
  have h1' : n.val = o' + b.val := h1
  rw [ld_codes, ld_scales, acc_hi, ld_ws x3 o' inb b n h1, xsA_apply, sum_piece x0 x1 x2 w i n _ fun c => hw _ c n (by dsimp only; omega)]
  rfl

theorem tile0_at (x1 : Vec Ideal S1280x768 .i8) (x2 : Vec Ideal S1280x48 .i32) (a : Fin 256) (c : Fin 1536) (n : Fin 1280) (hn : n.val = 0 + a.val) :
    tile0 x1 x2 (ix2 a c) = denseAt (fun j => x1 (ix2 n j)) (fun j => x2 (ix2 n j)) (perm c) := tile_piece x1 x2 0 1 2 3 _ _ _ _ _ rfl rfl rfl a c n hn
theorem tile1_at (x1 : Vec Ideal S1280x768 .i8) (x2 : Vec Ideal S1280x48 .i32) (a : Fin 256) (c : Fin 1536) (n : Fin 1280) (hn : n.val = 256 + a.val) :
    tile1 x1 x2 (ix2 a c) = denseAt (fun j => x1 (ix2 n j)) (fun j => x2 (ix2 n j)) (perm c) := tile_piece x1 x2 256 257 258 259 _ _ _ _ _ rfl rfl rfl a c n hn
theorem tile2_at (x1 : Vec Ideal S1280x768 .i8) (x2 : Vec Ideal S1280x48 .i32) (a : Fin 256) (c : Fin 1536) (n : Fin 1280) (hn : n.val = 512 + a.val) :
    tile2 x1 x2 (ix2 a c) = denseAt (fun j => x1 (ix2 n j)) (fun j => x2 (ix2 n j)) (perm c) := tile_piece x1 x2 512 513 514 515 _ _ _ _ _ rfl rfl rfl a c n hn
theorem tile3_at (x1 : Vec Ideal S1280x768 .i8) (x2 : Vec Ideal S1280x48 .i32) (a : Fin 256) (c : Fin 1536) (n : Fin 1280) (hn : n.val = 768 + a.val) :
    tile3 x1 x2 (ix2 a c) = denseAt (fun j => x1 (ix2 n j)) (fun j => x2 (ix2 n j)) (perm c) := tile_piece x1 x2 768 769 770 771 _ _ _ _ _ rfl rfl rfl a c n hn
theorem tile4_at (x1 : Vec Ideal S1280x768 .i8) (x2 : Vec Ideal S1280x48 .i32) (a : Fin 256) (c : Fin 1536) (n : Fin 1280) (hn : n.val = 1024 + a.val) :
    tile4 x1 x2 (ix2 a c) = denseAt (fun j => x1 (ix2 n j)) (fun j => x2 (ix2 n j)) (perm c) := tile_piece x1 x2 1024 1025 1026 1027 _ _ _ _ _ rfl rfl rfl a c n hn

/-- An entry of the block of the product that one step computes. -/
theorem blockOf_apply (x0 : Vec Ideal S1536x1536 .bf16) (x1 : Vec Ideal S1280x768 .i8) (x2 : Vec Ideal S1280x48 .i32) (x3 : Vec Ideal S1x1280 .f32)
    (i : Fin 1536) (n : Fin 1280) : blockOf x1 x2 x3 (permA x0) (xsA x0) (ix2 i n) = entry x0 x1 x2 x3 i n := by
  unfold blockOf L4
  canon_tiles x h
  · exact hi_piece x0 x1 x2 x3 _ 1024 1152 rfl (tile4_at x1 x2) _ i n x h0 h1
  · exact lo_piece x0 x1 x2 x3 _ 1024 (tile4_at x1 x2) _ i n x h0 h1
  · exact hi_piece x0 x1 x2 x3 _ 768 896 rfl (tile3_at x1 x2) _ i n x h0 h1
  · exact lo_piece x0 x1 x2 x3 _ 768 (tile3_at x1 x2) _ i n x h0 h1
  · exact hi_piece x0 x1 x2 x3 _ 512 640 rfl (tile2_at x1 x2) _ i n x h0 h1
  · exact lo_piece x0 x1 x2 x3 _ 512 (tile2_at x1 x2) _ i n x h0 h1
  · exact hi_piece x0 x1 x2 x3 _ 256 384 rfl (tile1_at x1 x2) _ i n x h0 h1
  · exact lo_piece x0 x1 x2 x3 _ 256 (tile1_at x1 x2) _ i n x h0 h1
  · exact hi_piece x0 x1 x2 x3 _ 0 128 rfl (tile0_at x1 x2) _ i n x h0 h1
  · exact lo_piece x0 x1 x2 x3 _ 0 (tile0_at x1 x2) _ i n x h0 (h1.trans (Nat.zero_add _).symm)

end Cert.KernelIdeal.Body

end
-- ==== Proof.KernelOut.lean ====
module

public import proofs.«01_k».proof.Proof.KernelVal
public import proofs.«01_k».proof.Proof.Spec

@[expose] public section

set_option maxRecDepth 16384

noncomputable section

/-! The kernel's three results, as functions of its arguments. -/

namespace Cert.KernelIdeal.Body

open Cert.KernelIdeal Cert.KernelIdeal.Gen Cert.Quant Cert.Bytes
open Idealize.ShloMosaic Idealize.ShloMosaic.TcCoe Idealize.SL.Sem

attribute [local irreducible] codesA scaleA permA xsA blockOf

variable (m : (ℓ : Loc nD τ sig) → Buf (Elt Ideal) ℓ)

/-- The activations as the kernel reads them: the argument, reshaped. -/
theorem V_act (c : Dev nD) : V m c main_v0 = (shapeCast S1536x1536 (show FVec Ideal S3x512x1536 .bf16 from m ((c : Thread nD τ).loc main_arg0)) shapeCasts_S3x512x1536_S1536x1536 : FVec Ideal S1536x1536 .bf16) := by
  unfold V
  after_results
  rfl

/-- The weight scales as the kernel reads them: the argument, reshaped. -/
theorem V_ws (c : Dev nD) : V m c main_v1 = (shapeCast S1x8960 (show FVec Ideal S8960 .f32 from m ((c : Thread nD τ).loc main_arg3)) shapeCasts_S8960_S1x8960 : FVec Ideal S1x8960 .f32) := by
  unfold V
  after_results
  rfl

theorem blkAt0 : ∀ t : Fin grid0.N, win0_0.index t 0 = 0 ∧ win0_0.index t 1 = 0 := by decide +kernel
theorem blkAt1 : ∀ t : Fin grid0.N, win0_1.index t 0 = t.val ∧ win0_1.index t 1 = 0 := by decide +kernel
theorem blkAt2 : ∀ t : Fin grid0.N, win0_2.index t 0 = t.val ∧ win0_2.index t 1 = 0 := by decide +kernel
theorem blkAt3 : ∀ t : Fin grid0.N, win0_3.index t 0 = 0 ∧ win0_3.index t 1 = t.val := by decide +kernel
theorem blkAt4 : ∀ t : Fin grid0.N, win0_4.index t 0 = 0 ∧ win0_4.index t 1 = t.val := by decide +kernel
theorem blkAt5 : ∀ t : Fin grid0.N, win0_5.index t 0 = 0 ∧ win0_5.index t 1 = 0 := by decide +kernel
theorem blkAt6 : ∀ t : Fin grid0.N, win0_6.index t 0 = 0 ∧ win0_6.index t 1 = 0 := by decide +kernel

/-- An entry of the activations, by row of tokens. -/
theorem actX_apply (c : Dev nD) (i k : Fin 1536) : actX m c (ix2 i k) = Spec.row (m ((c : Thread nD τ).loc main_arg0)) i k := by
  unfold actX Spec.row
  blk_point [iblk, V_act, blkAt0 pt0]

/-- A byte of the block of kept weights that a step reads. -/
theorem vals_apply (c : Dev nD) (t : Fin cfg0.N) (n : Fin 1280) (j : Fin 768) (N : Fin 8960) (h : N.val = 1280 * t.val + n.val) :
    iblk m c 1 t (ix2 n j) = m ((c : Thread nD τ).loc main_arg1) (ix2 N j) := by
  blk_point [iblk, V_main_arg1, blkAt1 t]

/-- An index word of the block that a step reads. -/
theorem words_apply (c : Dev nD) (t : Fin cfg0.N) (n : Fin 1280) (j : Fin 48) (N : Fin 8960) (h : N.val = 1280 * t.val + n.val) :
    iblk m c 2 t (ix2 n j) = m ((c : Thread nD τ).loc main_arg2) (ix2 N j) := by
  blk_point [iblk, V_main_arg2, blkAt2 t]

/-- A weight scale of the block that a step reads. -/
theorem ws_apply (c : Dev nD) (t : Fin cfg0.N) (n : Fin 1280) (N : Fin 8960) (h : N.val = 1280 * t.val + n.val) :
    iblk m c 3 t (ix2 0 n) = m ((c : Thread nD τ).loc main_arg3) (ix1 N) := by
  blk_point [iblk, V_ws, blkAt3 t]

/-- The first result of the kernel is the product. -/
theorem arr4 (c : Dev nD) : (dats m 0 c).arrAt 4 cfg0.N
    = Spec.prod (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have ht : t.val < 7 := lt_of_lt_of_eq t.isLt N_0
  obtain ⟨i, n, rfl⟩ : ∃ (i : Fin 1536) (n : Fin 1280), y = ix2 i n := ⟨y 0, y 1, by funext q; fin_cases q <;> rfl⟩
  have e : (win0_4.blk t).view.emb (ix2 i n) = ix2 i (⟨1280 * t.val + n.val, by omega⟩ : Fin 8960) := by
    have b := blkAt4 t
    funext q
    fin_cases q
    · apply Fin.ext
      blk_simp [b.1]
      rfl
    · apply Fin.ext
      blk_simp [b.2]
      show t.val * 1280 + n.val = 1280 * t.val + n.val
      omega
  refine (blockOf_apply (actX m c) _ _ _ i n).trans ?_
  rw [e]
  have hr : (fun k => actX m c (ix2 i k)) = Spec.row (m ((c : Thread nD τ).loc main_arg0)) i := funext fun k => actX_apply m c i k
  have h1 : (fun j => iblk m c 1 t (ix2 n j)) = fun j => m ((c : Thread nD τ).loc main_arg1) (ix2 (⟨1280 * t.val + n.val, by omega⟩ : Fin 8960) j) :=
    funext fun j => vals_apply m c t n j _ rfl
  have h2 : (fun j => iblk m c 2 t (ix2 n j)) = fun j => m ((c : Thread nD τ).loc main_arg2) (ix2 (⟨1280 * t.val + n.val, by omega⟩ : Fin 8960) j) :=
    funext fun j => words_apply m c t n j _ rfl
  unfold entry
  rw [hr, h1, h2, ws_apply m c t n ⟨1280 * t.val + n.val, by omega⟩ rfl]
  rfl

/-- The second result of the kernel is the array of codes. -/
theorem arr5 (c : Dev nD) : (dats m 0 c).arrAt 5 cfg0.N = Spec.codes (m ((c : Thread nD τ).loc main_arg0)) := by
  refine (dats m 0 c).arrAt_eq_of_covers 5 _ (by decide +kernel) fun t hf y => ?_
  blk_simp
  rw [after0_5]
  obtain ⟨i, k, rfl⟩ : ∃ (i : Fin 1536) (k : Fin 1536), y = ix2 i k := ⟨y 0, y 1, by funext q; fin_cases q <;> rfl⟩
  have e : (win0_5.blk t).view.emb (ix2 i k) = ix2 i k := by
    have b := blkAt5 t
    funext q
    fin_cases q <;> (apply Fin.ext; blk_simp [b.1, b.2]) <;> (try omega)
  refine (codesA_apply (actX m c) i k).trans ?_
  rw [e, show (fun k => actX m c (ix2 i k)) = Spec.row (m ((c : Thread nD τ).loc main_arg0)) i from funext fun k => actX_apply m c i k]
  rfl

/-- The third result of the kernel is the array of scales. -/
theorem arr6 (c : Dev nD) : (dats m 0 c).arrAt 6 cfg0.N = Spec.scales (m ((c : Thread nD τ).loc main_arg0)) := by
  refine (dats m 0 c).arrAt_eq_of_covers 6 _ (by decide +kernel) fun t hf y => ?_
  blk_simp
  rw [after0_6]
  obtain ⟨i, k, rfl⟩ : ∃ (i : Fin 1536) (k : Fin 1), y = ix2 i k := ⟨y 0, y 1, by funext q; fin_cases q <;> rfl⟩
  obtain rfl : k = 0 := Subsingleton.elim _ _
  have e : (win0_6.blk t).view.emb (ix2 i 0) = ix2 i (0 : Fin 1) := by
    have b := blkAt6 t
    funext q
    fin_cases q <;> (apply Fin.ext; blk_simp [b.1, b.2]) <;> (try omega)
  refine (scaleA_apply (actX m c) i).trans ?_
  rw [e, show (fun k => actX m c (ix2 i k)) = Spec.row (m ((c : Thread nD τ).loc main_arg0)) i from funext fun k => actX_apply m c i k]
  rfl

end Cert.KernelIdeal.Body

end
-- ==== Proof.KernelRun.lean ====
module

public import proofs.«01_k».proof.Proof.KernelOut

@[expose] public section

noncomputable section

/-! The kernel's run over the extended reals, with every result named. -/

namespace Cert.KernelIdeal.Body

open Cert.KernelIdeal Cert.KernelIdeal.Gen
open Idealize.ShloMosaic Idealize.ShloMosaic.TcCoe Idealize.SL.Sem

/-- The kernel terminates with the product, the codes and the scales of its arguments, which it leaves unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = Spec.prod (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v2_1) = Spec.codes (m ((c.tc : Thread nD τ).loc main_arg0))
      ∧ r.2.mem ((c.tc : Thread nD τ).loc main_v2_2) = Spec.scales (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h c => ?_) (θ_run_and (run_main m ρ) (frame m ρ))
  obtain ⟨h1, h2, -⟩ := h
  exact ⟨((h1 c).1 4).trans (arr4 m c), ((h1 c).1 5).trans (arr5 m c), ((h1 c).1 6).trans (arr6 m c), h2 c⟩

end Cert.KernelIdeal.Body

end
-- ==== Proof.RefHost.lean ====
module

public import proofs.«01_k».proof.Proof.Gen.ReferenceIdeal.Value
public import Idealize.ShloMosaic.Lib.Pipeline.ValueKit
public import Idealize.ShloMosaic.Lib.Pointwise
public import Idealize.ShloMosaic.Lib.Claim

@[expose] public section

set_option maxRecDepth 16384

noncomputable section

/-! What the reference's host operations leave for its product: the quantiser and the dense weights, as functions of the
    arguments. -/

namespace Cert.ReferenceIdeal.Val

open Cert.ReferenceIdeal Cert.ReferenceIdeal.Gen
open Idealize.ShloMosaic Idealize.ShloMosaic.TcCoe Idealize.SL.Sem

/-- The activations, a row a token, in single precision. -/
def refX (x : FVec Ideal S3x512x1536 .bf16) : FVec Ideal S1536x1536 .f32 :=
  extf .f32 (shapeCast S1536x1536 x shapeCasts_S3x512x1536_S1536x1536) bitsLt_bf16_f32

/-- A row's largest magnitude over 448. -/
def refV (x : FVec Ideal S3x512x1536 .bf16) : FVec Ideal S1536x1 .f32 :=
  mulf (broadcastInDim S1536x1 ![0] bcast_S1536_S1536x1_0
      (Host.reduce FloatOps.maximumf (Host.absf (refX x)) (constant S_ .f32 0xFF800000#32) reducesTo_S1536x1536_S1536_d1 h_S_))
    (broadcastInDim S1536x1 ![] bcast_S_S1536x1 (constant S_ .f32 0x3B124925#32))

/-- A row's exponent. -/
def refE (x : FVec Ideal S3x512x1536 .bf16) : FVec Ideal S1536x1 .f32 :=
  select (andi (cmpf .oge (refV x) (broadcastInDim S1536x1 ![] bcast_S_S1536x1 (constant S_ .f32 0x00800000#32)))
      (cmpf .olt (refV x) (broadcastInDim S1536x1 ![] bcast_S_S1536x1 (constant S_ .f32 0x7F800000#32))))
    (minimumf (addf (Host.floor (Host.divf (Host.log (refV x))
          (broadcastInDim S1536x1 ![] bcast_S_S1536x1 (Host.log (constant S_ .f32 0x40000000#32)))))
        (broadcastInDim S1536x1 ![] bcast_S_S1536x1 (constant S_ .f32 0x3F800000#32)))
      (broadcastInDim S1536x1 ![] bcast_S_S1536x1 (constant S_ .f32 0x42FC0000#32)))
    (broadcastInDim S1536x1 ![] bcast_S_S1536x1 (constant S_ .f32 0x00000000#32))

/-- A row's scale. -/
def refScale (x : FVec Ideal S3x512x1536 .bf16) : FVec Ideal S1536x1 .f32 :=
  Host.powf (broadcastInDim S1536x1 ![] bcast_S_S1536x1 (constant S_ .f32 0x40000000#32)) (refE x)

/-- The activations scaled down and clipped. -/
def refXs (x : FVec Ideal S3x512x1536 .bf16) : FVec Ideal S1536x1536 .f32 :=
  minimumf (broadcastInDim S1536x1536 ![] bcast_S_S1536x1536 (constant S_ .f32 0x43E00000#32))
    (maximumf (broadcastInDim S1536x1536 ![] bcast_S_S1536x1536 (constant S_ .f32 0xC3E00000#32))
      (mulf (refX x) (broadcastInDim S1536x1536 ![0, 1] bcast_S1536x1_S1536x1536_0_1
        (Host.powf (broadcastInDim S1536x1 ![] bcast_S_S1536x1 (constant S_ .f32 0x40000000#32)) (Host.negf (refE x))))))

/-- The index words, one for each of a word's groups. -/
def refWord (idx : IVec S8960x48 32) : IVec S8960x48x8 32 :=
  broadcastInDim S8960x48x8 ![0, 1, 2] bcast_S8960x48x1_S8960x48x8_0_1_2 (broadcastInDim S8960x48x1 ![0, 1] bcast_S8960x48_S8960x48x1_0_1 idx)

/-- The first kept position of every group. -/
def refP0 (idx : IVec S8960x48 32) : IVec S8960x48x8 32 :=
  andi (Host.shrsi (refWord idx) (broadcastInDim S8960x48x8 ![0, 1, 2] bcast_S1x1x8_S8960x48x8_0_1_2
      (broadcastInDim S1x1x8 ![2] bcast_S8_S1x1x8_2 (muli (broadcastInDim S8 ![] bcast_S_S8 (constantI S_ 32 2#32)) (iotaInDim S8 32 0)))))
    (broadcastInDim S8960x48x8 ![] bcast_S_S8960x48x8 (constantI S_ 32 3#32))

/-- The second kept position of every group. -/
def refP1 (idx : IVec S8960x48 32) : IVec S8960x48x8 32 :=
  andi (Host.shrsi (refWord idx) (broadcastInDim S8960x48x8 ![0, 1, 2] bcast_S1x1x8_S8960x48x8_0_1_2
      (broadcastInDim S1x1x8 ![2] bcast_S8_S1x1x8_2 (addi (broadcastInDim S8 ![] bcast_S_S8 (constantI S_ 32 16#32))
        (muli (broadcastInDim S8 ![] bcast_S_S8 (constantI S_ 32 2#32)) (iotaInDim S8 32 0))))))
    (broadcastInDim S8960x48x8 ![] bcast_S_S8960x48x8 (constantI S_ 32 3#32))

/-- Where a group's position is the given one. -/
def refAt (p : IVec S8960x48x8 32) : IVec S8960x48x8x4 1 :=
  cmpi .eq (broadcastInDim S8960x48x8x4 ![0, 1, 2, 3] bcast_S8960x48x8x1_S8960x48x8x4_0_1_2_3
      (broadcastInDim S8960x48x8x1 ![0, 1, 2] bcast_S8960x48x8_S8960x48x8x1_0_1_2 p))
    (broadcastInDim S8960x48x8x4 ![0, 1, 2, 3] bcast_S1x1x1x4_S8960x48x8x4_0_1_2_3 (broadcastInDim S1x1x1x4 ![3] bcast_S4_S1x1x1x4_3 (iotaInDim S4 32 0)))

/-- The dense weights, as bytes. -/
def refDense (vals : IVec S8960x768 8) (idx : IVec S8960x48 32) : IVec S8960x1536 8 :=
  shapeCast S8960x1536 (select (refAt (refP0 idx))
    (broadcastInDim S8960x48x8x4 ![0, 1, 2, 3] bcast_S8960x48x8x1_S8960x48x8x4_0_1_2_3
      (extractStridedSlice S8960x48x8x1 ![0, 0, 0, 0] (shapeCast S8960x48x8x2 vals shapeCasts_S8960x768_S8960x48x8x2) slices_S8960x48x8x2_S8960x48x8x1_0_0_0_0))
    (select (refAt (refP1 idx))
      (broadcastInDim S8960x48x8x4 ![0, 1, 2, 3] bcast_S8960x48x8x1_S8960x48x8x4_0_1_2_3
        (extractStridedSlice S8960x48x8x1 ![0, 0, 0, 1] (shapeCast S8960x48x8x2 vals shapeCasts_S8960x768_S8960x48x8x2) slices_S8960x48x8x2_S8960x48x8x1_0_0_0_1))
      (broadcastInDim S8960x48x8x4 ![] bcast_S_S8960x48x8x4 (constantI S_ 8 0#8)))) shapeCasts_S8960x48x8x4_S8960x1536

variable (m : (ℓ : Loc nD τ sig) → Buf (Elt Ideal) ℓ)

/-- The buffer of the scales when the product is launched. -/
theorem V_scale (c : Dev nD) : V m c main_v23 = refScale (m ((c : Thread nD τ).loc main_arg0)) := by
  show StableHlo.after [hostOps0, hostOps0_1, hostOps0_2, hostOps0_3, hostOps0_4, hostOps0_5, hostOps0_6, hostOps0_7].flatten (fun b => m (c, b)) main_v23 = _
  simp only [hostOps0, hostOps0_1, hostOps0_2, hostOps0_3, hostOps0_4, hostOps0_5, hostOps0_6, hostOps0_7, List.flatten_cons, List.flatten_nil, List.cons_append, List.nil_append, List.append_nil]
  after_results
  rfl

/-- The buffer of the scaled activations when the product is launched. -/
theorem V_xs (c : Dev nD) : V m c main_v29 = refXs (m ((c : Thread nD τ).loc main_arg0)) := by
  show StableHlo.after [hostOps0, hostOps0_1, hostOps0_2, hostOps0_3, hostOps0_4, hostOps0_5, hostOps0_6, hostOps0_7].flatten (fun b => m (c, b)) main_v29 = _
  simp only [hostOps0, hostOps0_1, hostOps0_2, hostOps0_3, hostOps0_4, hostOps0_5, hostOps0_6, hostOps0_7, List.flatten_cons, List.flatten_nil, List.cons_append, List.nil_append, List.append_nil]
  after_results
  rfl

/-- The buffer of the dense weights when the product is launched. -/
theorem V_dense (c : Dev nD) : V m c main_v66 = refDense (m ((c : Thread nD τ).loc main_arg1)) (m ((c : Thread nD τ).loc main_arg2)) := by
  show StableHlo.after [hostOps0, hostOps0_1, hostOps0_2, hostOps0_3, hostOps0_4, hostOps0_5, hostOps0_6, hostOps0_7].flatten (fun b => m (c, b)) main_v66 = _
  simp only [hostOps0, hostOps0_1, hostOps0_2, hostOps0_3, hostOps0_4, hostOps0_5, hostOps0_6, hostOps0_7, List.flatten_cons, List.flatten_nil, List.cons_append, List.nil_append, List.append_nil]
  after_results
  rfl

/-- The buffer of the weight scales when the product is launched. -/
theorem V_ws (c : Dev nD) : V m c main_v67 = (shapeCast S1x8960 (show FVec Ideal S8960 .f32 from m ((c : Thread nD τ).loc main_arg3)) shapeCasts_S8960_S1x8960 : FVec Ideal S1x8960 .f32) := by
  show StableHlo.after [hostOps0, hostOps0_1, hostOps0_2, hostOps0_3, hostOps0_4, hostOps0_5, hostOps0_6, hostOps0_7].flatten (fun b => m (c, b)) main_v67 = _
  simp only [hostOps0, hostOps0_1, hostOps0_2, hostOps0_3, hostOps0_4, hostOps0_5, hostOps0_6, hostOps0_7, List.flatten_cons, List.flatten_nil, List.cons_append, List.nil_append, List.append_nil]
  after_results
  rfl

end Cert.ReferenceIdeal.Val

end
-- ==== Proof.RefOps.lean ====
module

public import proofs.«01_k».proof.Proof.RefHost
public import proofs.«01_k».proof.Proof.Spec

@[expose] public section

set_option maxRecDepth 16384

noncomputable section

/-! The host operations of the reference's quantiser, at one index of any arrays. -/

namespace Cert.ReferenceIdeal.Val

open Cert.ReferenceIdeal Cert.ReferenceIdeal.Gen Cert.Quant
open Idealize.ShloMosaic Idealize.ShloMosaic.TcCoe Idealize.SL.Sem

section Ops

variable {s : Shape} (a b : FVec Ideal s .f32) (c d : IVec s 1) (j : s.Idx)

theorem powf_at : Host.powf a b j = Ideal.pow (a j) (b j) := rfl
theorem log_at : Host.log a j = Ideal.log (a j) := rfl
theorem divf_at : Host.divf a b j = Ideal.div (a j) (b j) := rfl
theorem floor_at : Host.floor a j = Ideal.liftRound Int.floor (a j) := rfl
theorem negf_at : Host.negf a j = -(a j) := rfl
theorem absf_at : Host.absf a j = max (a j) (-(a j)) := rfl
theorem mulf_at : mulf a b j = (a j * b j : EReal) := rfl
theorem addf_at : addf a b j = (a j + b j : EReal) := rfl
theorem minimumf_at : minimumf a b j = min (a j : EReal) (b j) := rfl
theorem maximumf_at : maximumf a b j = max (a j : EReal) (b j) := rfl
theorem cmpf_at (p : CmpFPredicate) : cmpf p a b j = Ideal.cmp p (a j) (b j) := rfl
theorem andi_at : andi c d j = IntOp.andi (c j) (d j) := rfl
theorem select_at : select c a b j = Scalar.select (c j) (a j) (b j) := rfl

end Ops

/-- A scalar repeated over an array. -/
theorem splat_at {t : Shape} (h : S_.BroadcastsInDim t ![]) (a : FVec Ideal S_ .f32) (j : t.Idx) :
    broadcastInDim t ![] h a j = a (fun q => q.elim0) :=
  congrArg a (funext fun q => q.elim0)

/-- A constant scalar. -/
theorem const_at (w : BitVec 32) (j : S_.Idx) : (constant S_ .f32 w : FVec Ideal S_ .f32) j = Ideal.ofBits .f32 w := rfl

/-- A constant repeated over an array. -/
theorem splatc_at {t : Shape} (h : S_.BroadcastsInDim t ![]) (w : BitVec 32) (j : t.Idx) :
    broadcastInDim t ![] h (constant S_ .f32 w : FVec Ideal S_ .f32) j = Ideal.ofBits .f32 w := rfl

/-- The logarithm of a constant repeated over an array. -/
theorem splatlog_at {t : Shape} (h : S_.BroadcastsInDim t ![]) (w : BitVec 32) (j : t.Idx) :
    broadcastInDim t ![] h (Host.log (constant S_ .f32 w : FVec Ideal S_ .f32)) j = Ideal.log (Ideal.ofBits .f32 w) := rfl

/-- A vector as a column. -/
theorem col_at (a : FVec Ideal S1536 .f32) (i : Fin 1536) : broadcastInDim S1536x1 ![0] bcast_S1536_S1536x1_0 a (ix2 i 0) = a (ix1 i) := by
  pointwise []

/-- A column repeated over the lanes. -/
theorem rows_at (a : FVec Ideal S1536x1 .f32) (i k : Fin 1536) : broadcastInDim S1536x1536 ![0, 1] bcast_S1536x1_S1536x1536_0_1 a (ix2 i k) = a (ix2 i 0) := by
  pointwise []

/-- The largest entry of a row. -/
theorem max_at (a : FVec Ideal S1536x1536 .f32) (w : FVec Ideal S_ .f32) (i : Fin 1536) :
    Host.reduce FloatOps.maximumf a w reducesTo_S1536x1536_S1536_d1 h_S_ (ix1 i)
      = Finset.fold max (w (fun q => q.elim0)) (fun k : Fin 1536 => a (ix2 i k)) Finset.univ := by
  pointwise []
  exact congrArg (fun z => Finset.fold max (w z) (fun k : Fin 1536 => a (ix2 i k)) Finset.univ) (funext fun q => q.elim0)

end Cert.ReferenceIdeal.Val

end
-- ==== Proof.RefRow.lean ====
module

public import proofs.«01_k».proof.Proof.RefOps

@[expose] public section

set_option maxRecDepth 16384

noncomputable section

/-! The reference's quantiser, one token at a time. -/

namespace Cert.ReferenceIdeal.Val

open Cert.ReferenceIdeal Cert.ReferenceIdeal.Gen Cert.Quant
open Idealize.ShloMosaic Idealize.ShloMosaic.TcCoe Idealize.SL.Sem

/-- An entry of the activations. -/
theorem refX_apply (x : FVec Ideal S3x512x1536 .bf16) (i k : Fin 1536) : refX x (ix2 i k) = Spec.row x i k := by
  pointwise [refX]
  rfl

/-- The magnitude of a row over 448. -/
theorem refV_apply (x : FVec Ideal S3x512x1536 .bf16) (i : Fin 1536) : refV x (ix2 i 0) = rowV (Spec.row x i) := by
  unfold refV
  rw [mulf_at, col_at, max_at, splat_at, const_at, const_at, bot_f32]
  simp only [absf_at, refX_apply]
  unfold rowV
  rfl

/-- The exponent of a row: the floor of its logarithm, plus one, is the integer that the kernel counts. -/
theorem refE_apply (x : FVec Ideal S3x512x1536 .bf16) (i : Fin 1536) : refE x (ix2 i 0) = ((rowE (Spec.row x i) : ℝ) : EReal) := by
  unfold refE
  rw [select_at, andi_at, cmpf_at, cmpf_at, minimumf_at, addf_at, floor_at, divf_at, log_at, splatlog_at, refV_apply, splatc_at, splatc_at, splatc_at, splatc_at,
    splatc_at, bits_min_normal, bits_inf, bits_two, bits_one, bits_126, Ideal.ofBits_zero]
  unfold rowE
  exact exp_log _

/-- The scale of a row. -/
theorem refScale_apply (x : FVec Ideal S3x512x1536 .bf16) (i : Fin 1536) : refScale x (ix2 i 0) = rowScale (Spec.row x i) := by
  unfold refScale
  rw [powf_at, splatc_at, refE_apply, bits_two]
  unfold rowScale
  exact pow_exp _

/-- The scaled and clipped entry of a row. -/
theorem refXs_apply (x : FVec Ideal S3x512x1536 .bf16) (i k : Fin 1536) : refXs x (ix2 i k) = rowCode (Spec.row x i) k := by
  unfold refXs
  rw [minimumf_at, maximumf_at, mulf_at, rows_at, powf_at, negf_at, refE_apply, refX_apply]
  rw [splatc_at, splatc_at, splatc_at, bits_two, pow_neg_exp]
  unfold rowCode
  rfl

end Cert.ReferenceIdeal.Val

end
-- ==== Proof.RefDense.lean ====
module

public import proofs.«01_k».proof.Proof.RefHost
public import proofs.«01_k».proof.Proof.Positions
public import proofs.«01_k».proof.Proof.Lanes

@[expose] public section

set_option maxRecDepth 16384

noncomputable section

/-! The reference's dense weights, one entry at a time. -/

namespace Cert.ReferenceIdeal.Val

open Cert.ReferenceIdeal Cert.ReferenceIdeal.Gen Cert.Bytes
open Idealize.ShloMosaic Idealize.ShloMosaic.TcCoe Idealize.SL.Sem

/-- The first kept position of a group is two bits of its word. -/
theorem refP0_apply (idx : IVec S8960x48 32) (n : Fin 8960) (w : Fin 48) (j : Fin 8) :
    refP0 idx (ix3 n w j) = IntOp.andi (IntOp.shrsi .host (idx (ix2 n w)) (IntOp.muli 2#32 (BitVec.ofNat 32 j.val))) 3#32 := by
  pointwise [refP0, refWord]

/-- The second kept position of a group is two bits of its word. -/
theorem refP1_apply (idx : IVec S8960x48 32) (n : Fin 8960) (w : Fin 48) (j : Fin 8) :
    refP1 idx (ix3 n w j) = IntOp.andi (IntOp.shrsi .host (idx (ix2 n w)) (IntOp.addi 16#32 (IntOp.muli 2#32 (BitVec.ofNat 32 j.val)))) 3#32 := by
  pointwise [refP1, refWord]

/-- Whether a position is the kept one. -/
theorem refAt_apply (p : IVec S8960x48x8 32) (n : Fin 8960) (w : Fin 48) (j : Fin 8) (q : Fin 4) :
    refAt p (ix4 n w j q) = IntOp.cmpi .eq (p (ix3 n w j)) (BitVec.ofNat 32 q.val) := by
  pointwise [refAt]

theorem refAt0_apply (idx : IVec S8960x48 32) (n : Fin 8960) (w : Fin 48) (j : Fin 8) (q : Fin 4) :
    refAt (refP0 idx) (ix4 n w j q)
      = BitVec.ofBool (decide (pos ((idx (ix2 n w)).getLsbD (2 * j.val)) ((idx (ix2 n w)).getLsbD (2 * j.val + 1)) = q.val)) := by
  rw [refAt_apply, refP0_apply]
  exact pos_at _ _ _ (by omega) (shift_lo j) q

theorem refAt1_apply (idx : IVec S8960x48 32) (n : Fin 8960) (w : Fin 48) (j : Fin 8) (q : Fin 4) :
    refAt (refP1 idx) (ix4 n w j q)
      = BitVec.ofBool (decide (pos ((idx (ix2 n w)).getLsbD (16 + 2 * j.val)) ((idx (ix2 n w)).getLsbD (16 + 2 * j.val + 1)) = q.val)) := by
  rw [refAt_apply, refP1_apply]
  exact pos_at _ _ _ (by omega) (shift_hi j) q

/-- The kept values of one kind, one for each position. -/
def valsAt0 (vals : IVec S8960x768 8) : IVec S8960x48x8x4 8 :=
  broadcastInDim S8960x48x8x4 ![0, 1, 2, 3] bcast_S8960x48x8x1_S8960x48x8x4_0_1_2_3
    (extractStridedSlice S8960x48x8x1 ![0, 0, 0, 0] (shapeCast S8960x48x8x2 vals shapeCasts_S8960x768_S8960x48x8x2) slices_S8960x48x8x2_S8960x48x8x1_0_0_0_0)
/-- The kept values of the other kind. -/
def valsAt1 (vals : IVec S8960x768 8) : IVec S8960x48x8x4 8 :=
  broadcastInDim S8960x48x8x4 ![0, 1, 2, 3] bcast_S8960x48x8x1_S8960x48x8x4_0_1_2_3
    (extractStridedSlice S8960x48x8x1 ![0, 0, 0, 1] (shapeCast S8960x48x8x2 vals shapeCasts_S8960x768_S8960x48x8x2) slices_S8960x48x8x2_S8960x48x8x1_0_0_0_1)

theorem valsAt0_apply (vals : IVec S8960x768 8) (n : Fin 8960) (w : Fin 48) (j : Fin 8) (q : Fin 4) :
    valsAt0 vals (ix4 n w j q) = vals (ix2 n ⟨16 * w.val + 2 * j.val, by omega⟩) := by
  pointwise [valsAt0]
  blk_ext
theorem valsAt1_apply (vals : IVec S8960x768 8) (n : Fin 8960) (w : Fin 48) (j : Fin 8) (q : Fin 4) :
    valsAt1 vals (ix4 n w j q) = vals (ix2 n ⟨16 * w.val + 2 * j.val + 1, by omega⟩) := by
  pointwise [valsAt1]
  blk_ext

/-- The dense weights before the columns are flattened. -/
def dense4 (vals : IVec S8960x768 8) (idx : IVec S8960x48 32) : IVec S8960x48x8x4 8 :=
  select (refAt (refP0 idx)) (valsAt0 vals)
    (select (refAt (refP1 idx)) (valsAt1 vals) (broadcastInDim S8960x48x8x4 ![] bcast_S_S8960x48x8x4 (constantI S_ 8 0#8)))

theorem dense4_apply (vals : IVec S8960x768 8) (idx : IVec S8960x48 32) (n : Fin 8960) (w : Fin 48) (j : Fin 8) (q : Fin 4) :
    dense4 vals idx (ix4 n w j q) = denseByte (idx (ix2 n w)) j.val q.val (vals (ix2 n ⟨16 * w.val + 2 * j.val, by omega⟩))
      (vals (ix2 n ⟨16 * w.val + 2 * j.val + 1, by omega⟩)) := by
  show Scalar.select (refAt (refP0 idx) (ix4 n w j q)) (valsAt0 vals (ix4 n w j q))
    (Scalar.select (refAt (refP1 idx) (ix4 n w j q)) (valsAt1 vals (ix4 n w j q)) 0#8) = _
  rw [refAt0_apply, refAt1_apply, valsAt0_apply, valsAt1_apply, Cert.KernelIdeal.Body.select_ofBool, Cert.KernelIdeal.Body.select_ofBool]
  rfl

theorem flat_apply (x : IVec S8960x48x8x4 8) (n : Fin 8960) (k : Fin 1536) :
    shapeCast S8960x1536 x shapeCasts_S8960x48x8x4_S8960x1536 (ix2 n k) = x (ix4 n ⟨k.val / 32, by omega⟩ ⟨k.val / 4 % 8, by omega⟩ ⟨k.val % 4, by omega⟩) := by
  pointwise []

/-- A byte of the dense weights of the reference. -/
theorem refDense_apply (vals : IVec S8960x768 8) (idx : IVec S8960x48 32) (n : Fin 8960) (k : Fin 1536) :
    Ideal.ofBits .fp8e4m3 (refDense vals idx (ix2 n k)) = denseAt (fun j => vals (ix2 n j)) (fun j => idx (ix2 n j)) k := by
  show Ideal.ofBits .fp8e4m3 (shapeCast S8960x1536 (dense4 vals idx) shapeCasts_S8960x48x8x4_S8960x1536 (ix2 n k)) = _
  rw [flat_apply, dense4_apply]
  rfl

end Cert.ReferenceIdeal.Val

end
-- ==== Proof.RefOut.lean ====
module

public import proofs.«01_k».proof.Proof.RefRow
public import proofs.«01_k».proof.Proof.RefDense
public import proofs.«01_k».proof.Proof.Spec

@[expose] public section

set_option maxRecDepth 16384
set_option maxHeartbeats 4000000

noncomputable section

/-! The reference's three results, as functions of its arguments. -/

namespace Cert.ReferenceIdeal.Val

open Cert.ReferenceIdeal Cert.ReferenceIdeal.Gen Cert.Quant Cert.Bytes
open Idealize.ShloMosaic Idealize.ShloMosaic.TcCoe Idealize.SL.Sem

variable (m : (ℓ : Loc nD τ sig) → Buf (Elt Ideal) ℓ)

theorem blkAt0 : ∀ t : Fin grid0.N, win0_0.index t 0 = 0 ∧ win0_0.index t 1 = 0 := by decide +kernel
theorem blkAt1 : ∀ t : Fin grid0.N, win0_1.index t 0 = 0 ∧ win0_1.index t 1 = 0 := by decide +kernel
theorem blkAt2 : ∀ t : Fin grid0.N, win0_2.index t 0 = 0 ∧ win0_2.index t 1 = 0 := by decide +kernel
theorem blkAt3 : ∀ t : Fin grid0.N, win0_3.index t 0 = 0 ∧ win0_3.index t 1 = 0 := by decide +kernel
theorem blkAt4 : ∀ t : Fin grid0.N, win0_4.index t 0 = 0 ∧ win0_4.index t 1 = 0 := by decide +kernel
theorem blkAt5 : ∀ t : Fin grid0.N, win0_5.index t 0 = 0 ∧ win0_5.index t 1 = 0 := by decide +kernel

/-- A scaled activation that the product reads. -/
theorem xs_apply (c : Dev nD) (t : Fin cfg0.N) (i k : Fin 1536) :
    iblk m c 0 t (ix2 i k) = rowCode (Spec.row (m ((c : Thread nD τ).loc main_arg0)) i) k := by
  refine Eq.trans ?_ (refXs_apply (m ((c : Thread nD τ).loc main_arg0)) i k)
  rw [← V_xs]
  blk_point [iblk, blkAt0 t]

/-- A dense weight byte that the product reads. -/
theorem w_apply (c : Dev nD) (t : Fin cfg0.N) (n : Fin 8960) (k : Fin 1536) :
    iblk m c 2 t (ix2 n k) = refDense (m ((c : Thread nD τ).loc main_arg1)) (m ((c : Thread nD τ).loc main_arg2)) (ix2 n k) := by
  rw [← V_dense]
  blk_point [iblk, blkAt2 t]

/-- A scale that the product reads. -/
theorem scale_apply (c : Dev nD) (t : Fin cfg0.N) (i : Fin 1536) :
    iblk m c 1 t (ix2 i 0) = rowScale (Spec.row (m ((c : Thread nD τ).loc main_arg0)) i) := by
  refine Eq.trans ?_ (refScale_apply (m ((c : Thread nD τ).loc main_arg0)) i)
  rw [← V_scale]
  blk_point [iblk, blkAt1 t]

/-- A vector as a line. -/
theorem line_at (v : FVec Ideal S8960 .f32) (n : Fin 8960) : shapeCast S1x8960 v shapeCasts_S8960_S1x8960 (ix2 0 n) = v (ix1 n) := by
  pointwise []

/-- A weight scale that the product reads. -/
theorem ws_apply (c : Dev nD) (t : Fin cfg0.N) (n : Fin 8960) : iblk m c 3 t (ix2 0 n) = m ((c : Thread nD τ).loc main_arg3) (ix1 n) := by
  refine Eq.trans ?_ (line_at (m ((c : Thread nD τ).loc main_arg3)) n)
  refine Eq.trans ?_ (congrFun (V_ws m c) (ix2 0 n))
  blk_point [iblk, blkAt3 t]

/-- An entry of the product stored by the body. -/
theorem pay_apply (x0 : Vec Ideal S1536x1536 .f32) (x1 : Vec Ideal S8960x1536 .i8) (x2 : Vec Ideal S1536x1 .f32) (x3 : Vec Ideal S1x8960 .f32) (i : Fin 1536) (n : Fin 8960) :
    k0_pay2 x0 x1 x2 x3 (ix2 i n) = (∑ k : Fin 1536, x0 (ix2 i k) * Ideal.ofBits .fp8e4m3 (x1 (ix2 n k))) * x2 (ix2 i 0) * x3 (ix2 0 n) := by
  pointwise [k0_pay2, k0_pay1]

/-- A code stored by the body. -/
theorem pay1_apply (x0 : Vec Ideal S1536x1536 .f32) (i k : Fin 1536) : k0_pay1 x0 (ix2 i k) = x0 (ix2 i k) := by
  pointwise [k0_pay1]

theorem zeros2 : (![0, 0] : Fin 2 → ℕ) = fun _ => 0 := by funext q; fin_cases q <;> rfl

/-- A code of the block that the body leaves. -/
theorem out5_apply (x0 : Vec Ideal S1536x1536 .f32) (x2 : Vec Ideal S1536x1 .f32) (x1 : Vec Ideal S8960x1536 .i8) (x3 : Vec Ideal S1x8960 .f32) (i k : Fin 1536) :
    out0_5 x0 x2 x1 x3 (ix2 i k) = x0 (ix2 i k) := by
  unfold out0_5
  rw [View.canon_unit_zero zeros2, View.ld_unit_zero zeros2]
  exact pay1_apply x0 i k

/-- An entry of the block of the product that the body leaves. -/
theorem out4_apply (x0 : Vec Ideal S1536x1536 .f32) (x2 : Vec Ideal S1536x1 .f32) (x1 : Vec Ideal S8960x1536 .i8) (x3 : Vec Ideal S1x8960 .f32) (i : Fin 1536) (n : Fin 8960) :
    out0_4 x0 x2 x1 x3 (ix2 i n) = (∑ k : Fin 1536, x0 (ix2 i k) * Ideal.ofBits .fp8e4m3 (x1 (ix2 n k))) * x2 (ix2 i 0) * x3 (ix2 0 n) := by
  unfold out0_4
  rw [View.canon_unit_zero zeros2, View.ld_unit_zero zeros2, View.ld_unit_zero zeros2, View.ld_unit_zero zeros2, View.ld_unit_zero zeros2]
  exact pay_apply x0 x1 x2 x3 i n

/-- The first result of the reference is the product. -/
theorem arr4 (c : Dev nD) : (dats m 0 c).arrAt 4 cfg0.N
    = Spec.prod (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨i, n, rfl⟩ : ∃ (i : Fin 1536) (n : Fin 8960), y = ix2 i n := ⟨y 0, y 1, by funext q; fin_cases q <;> rfl⟩
  have e : (win0_4.blk t).view.emb (ix2 i n) = ix2 i n := by
    have b := blkAt4 t
    funext q
    fin_cases q <;> (apply Fin.ext; blk_simp [b.1, b.2])
  refine (out4_apply _ _ _ _ i n).trans ?_
  rw [e, scale_apply, ws_apply]
  simp only [xs_apply, w_apply, refDense_apply]
  rfl

/-- The second result of the reference is the array of codes. -/
theorem arr5 (c : Dev nD) : (dats m 0 c).arrAt 5 cfg0.N = Spec.codes (m ((c : Thread nD τ).loc main_arg0)) := by
  refine (dats m 0 c).arrAt_eq_of_covers 5 _ (by decide +kernel) fun t hf y => ?_
  blk_simp
  rw [after0_5]
  obtain ⟨i, k, rfl⟩ : ∃ (i : Fin 1536) (k : Fin 1536), y = ix2 i k := ⟨y 0, y 1, by funext q; fin_cases q <;> rfl⟩
  have e : (win0_5.blk t).view.emb (ix2 i k) = ix2 i k := by
    have b := blkAt5 t
    funext q
    fin_cases q <;> (apply Fin.ext; blk_simp [b.1, b.2])
  refine (out5_apply _ _ _ _ i k).trans ?_
  rw [e, xs_apply]
  rfl

/-- The third result of the reference is the array of scales. -/
theorem buf_scale (c : Dev nD) : V m c main_v23 = Spec.scales (m ((c : Thread nD τ).loc main_arg0)) := by
  rw [V_scale]
  funext y
  obtain ⟨i, k, rfl⟩ : ∃ (i : Fin 1536) (k : Fin 1), y = ix2 i k := ⟨y 0, y 1, by funext q; fin_cases q <;> rfl⟩
  obtain rfl : k = 0 := Subsingleton.elim _ _
  exact refScale_apply (m ((c : Thread nD τ).loc main_arg0)) i

end Cert.ReferenceIdeal.Val

end
-- ==== Proof.RefRun.lean ====
module

public import proofs.«01_k».proof.Proof.RefOut

@[expose] public section

noncomputable section

/-! The reference's run over the extended reals, with every result named. -/

namespace Cert.ReferenceIdeal.Val

open Cert.ReferenceIdeal Cert.ReferenceIdeal.Gen
open Idealize.ShloMosaic Idealize.ShloMosaic.TcCoe Idealize.SL.Sem

/-- The reference terminates with the product, the codes and the scales of its arguments, which it leaves unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v68_0) = Spec.prod (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v68_1) = Spec.codes (m ((c.tc : Thread nD τ).loc main_arg0))
      ∧ r.2.mem ((c.tc : Thread nD τ).loc main_v23) = Spec.scales (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h c => ?_) (run_main m ρ)
  exact ⟨(Value.post4 m r h c).trans (arr4 m c), (Value.post5 m r h c).trans (arr5 m c),
    ((h c).1 1).trans (((dats m 0 c).arrAt_in 1 rfl _).trans ((A_eq m c 1).trans (buf_scale m c))),
    Value.kept_main_arg0 m r h c, Value.kept_main_arg1 m r h c, Value.kept_main_arg2 m r h c, Value.kept_main_arg3 m r h c⟩

end Cert.ReferenceIdeal.Val

end
-- ==== Proof.lean ====
module

public import proofs.«01_k».proof.Defs
public import proofs.«01_k».proof.Proof.Word.Body
public import proofs.«01_k».proof.Proof.KernelRun
public import proofs.«01_k».proof.Proof.RefRun

@[expose] public section

noncomputable section

namespace Cert.Proof

open Idealize.ShloMosaic Idealize.SL.Sem

/-- Kernel and reference both run, and from equal arguments their products, codes and scales are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.Spec.prod (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    fun c => Cert.Spec.codes (m ((c.tc : Thread _ _).loc Cert.KernelIdeal.main_arg0)),
    fun c => Cert.Spec.scales (m ((c.tc : Thread _ _).loc Cert.KernelIdeal.main_arg0)), Cert.KernelIdeal.Body.run m g, ?_⟩
  refine (θ_run (Cert.ReferenceIdeal.defs (F := Ideal)) _ _).mono (fun r h c => ?_) (Cert.ReferenceIdeal.Val.run m' g')
  obtain ⟨h0, h1, h2, ha⟩ := h c
  obtain ⟨e0, e1, e2, e3⟩ := hargs c
  rw [e0, e1, e2, e3] at h0
  rw [e0] at h1 h2
  exact ⟨h0, h1, h2, ha⟩

/-- All five claims. -/
theorem claim : Cert.Claim :=
  ⟨Cert.Kernel.Gen.facts, Cert.KernelIdeal.Gen.facts, Cert.ReferenceIdeal.Gen.facts, fun m g _ => Cert.Kernel.Body.frame m g,
    fun m g _ => Cert.KernelIdeal.Body.frame m g, fun m g _ => Cert.ReferenceIdeal.Gen.frame m g, trivial, algebraic⟩

end Cert.Proof

end
